-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x64x48x48x48 : Shape := ⟨5, ![2, 64, 48, 48, 48]⟩
abbrev S2x16x48x48x48 : Shape := ⟨5, ![2, 16, 48, 48, 48]⟩
abbrev S2x64x110592 : Shape := ⟨3, ![2, 64, 110592]⟩
abbrev S2x16x110592 : Shape := ⟨3, ![2, 16, 110592]⟩
abbrev S64x110592 : Shape := ⟨2, ![64, 110592]⟩
abbrev S16x110592 : Shape := ⟨2, ![16, 110592]⟩
abbrev S1x110592 : Shape := ⟨2, ![1, 110592]⟩
abbrev S2x64x12288 : Shape := ⟨3, ![2, 64, 12288]⟩
abbrev S9 : Shape := ⟨1, ![9]⟩
abbrev S_ : Shape := ⟨0, ![]⟩
abbrev S2 : Shape := ⟨1, ![2]⟩
abbrev S1x16x110592 : Shape := ⟨3, ![1, 16, 110592]⟩
abbrev S1 : Shape := ⟨1, ![1]⟩
abbrev S64x12288 : Shape := ⟨2, ![64, 12288]⟩
abbrev S1x64x12288 : Shape := ⟨3, ![1, 64, 12288]⟩
abbrev S16x64 : Shape := ⟨2, ![16, 64]⟩
abbrev S16x1 : Shape := ⟨2, ![16, 1]⟩
abbrev S16x12288 : Shape := ⟨2, ![16, 12288]⟩
abbrev S12288 : Shape := ⟨1, ![12288]⟩
abbrev S1x12288 : Shape := ⟨2, ![1, 12288]⟩
abbrev S16 : Shape := ⟨1, ![16]⟩

abbrev nBuf : Space → Nat
  | .hbm => 6
  | .vmem => 4
  | .smem => 0
  | _ => 0

abbrev bufTy : (tb : Table) → Fin (tcTables nBuf tb) → BufTy
  | .hbm, ⟨0, _⟩ => ⟨S2x64x48x48x48, .f32⟩
  | .hbm, ⟨1, _⟩ => ⟨S2x16x48x48x48, .f32⟩
  | .hbm, ⟨2, _⟩ => ⟨S2x64x110592, .f32⟩
  | .hbm, ⟨3, _⟩ => ⟨S2x16x110592, .f32⟩
  | .hbm, ⟨4, _⟩ => ⟨S2x64x110592, .f32⟩
  | .hbm, ⟨5, _⟩ => ⟨S2x64x48x48x48, .f32⟩
  | .local _ .vmem, ⟨0, _⟩ => ⟨S64x110592, .f32⟩
  | .local _ .vmem, ⟨1, _⟩ => ⟨S16x110592, .f32⟩
  | .local _ .vmem, ⟨2, _⟩ => ⟨S1x110592, .i32⟩
  | .local _ .vmem, ⟨3, _⟩ => ⟨S2x64x12288, .f32⟩
  | _, _ => ⟨S2x64x48x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩

abbrev nD : Nat := 1
abbrev τ : Topo := Topo.v7x

variable {F : FTy → Type} [FloatOps F]

abbrev grid0 : Pipeline.Grid := ⟨1, ![2], ![false]⟩

def k0_off1 (i : grid0.Coords) : Fin 3 → Nat :=
  let arg0 : BitVec 32 := BitVec.ofNat 32 (i 0).val
  let c0_i32_1 : BitVec 32 := 0#32
  let c0_i32_2 : BitVec 32 := 0#32
  ![arg0.toNat, 0, 0]
def k0_off2 (i : grid0.Coords) : Fin 3 → Nat :=
  let arg0 : BitVec 32 := BitVec.ofNat 32 (i 0).val
  let c0_i32_14 : BitVec 32 := 0#32
  let c0_i32_15 : BitVec 32 := 0#32
  ![arg0.toNat, 0, 0]
def k0_off3 (i : grid0.Coords) : Fin 3 → Nat :=
  let arg0 : BitVec 32 := BitVec.ofNat 32 (i 0).val
  let c0_i32_31 : BitVec 32 := 0#32
  let c12288_i32_32 : BitVec 32 := 12288#32
  ![arg0.toNat, 0, 12288]
def k0_off4 (i : grid0.Coords) : Fin 3 → Nat :=
  let arg0 : BitVec 32 := BitVec.ofNat 32 (i 0).val
  let c0_i32_48 : BitVec 32 := 0#32
  let c24576_i32_49 : BitVec 32 := 24576#32
  ![arg0.toNat, 0, 24576]
def k0_off5 (i : grid0.Coords) : Fin 3 → Nat :=
  let arg0 : BitVec 32 := BitVec.ofNat 32 (i 0).val
  let c0_i32_65 : BitVec 32 := 0#32
  let c36864_i32_66 : BitVec 32 := 36864#32
  ![arg0.toNat, 0, 36864]
def k0_off6 (i : grid0.Coords) : Fin 3 → Nat :=
  let arg0 : BitVec 32 := BitVec.ofNat 32 (i 0).val
  let c0_i32_82 : BitVec 32 := 0#32
  let c49152_i32_83 : BitVec 32 := 49152#32
  ![arg0.toNat, 0, 49152]
def k0_off7 (i : grid0.Coords) : Fin 3 → Nat :=
  let arg0 : BitVec 32 := BitVec.ofNat 32 (i 0).val
  let c0_i32_99 : BitVec 32 := 0#32
  let c61440_i32_100 : BitVec 32 := 61440#32
  ![arg0.toNat, 0, 61440]
def k0_off8 (i : grid0.Coords) : Fin 3 → Nat :=
  let arg0 : BitVec 32 := BitVec.ofNat 32 (i 0).val
  let c0_i32_116 : BitVec 32 := 0#32
  let c73728_i32_117 : BitVec 32 := 73728#32
  ![arg0.toNat, 0, 73728]
def k0_off9 (i : grid0.Coords) : Fin 3 → Nat :=
  let arg0 : BitVec 32 := BitVec.ofNat 32 (i 0).val
  let c0_i32_133 : BitVec 32 := 0#32
  let c86016_i32_134 : BitVec 32 := 86016#32
  ![arg0.toNat, 0, 86016]
def k0_off10 (i : grid0.Coords) : Fin 3 → Nat :=
  let arg0 : BitVec 32 := BitVec.ofNat 32 (i 0).val
  let c0_i32_150 : BitVec 32 := 0#32
  let c98304_i32_151 : BitVec 32 := 98304#32
  ![arg0.toNat, 0, 98304]
def k0_cond2 (i : grid0.Coords) : BitVec 1 :=
  let arg0 : BitVec 32 := BitVec.ofNat 32 (i 0).val
  let c1_i32_165 : BitVec 32 := 1#32
  let v356 : BitVec 32 := Scalar.addi arg0 c1_i32_165
  let c2_i32_166 : BitVec 32 := 2#32
  let v357 : BitVec 1 := Scalar.cmpi .slt v356 c2_i32_166
  let v358 : BitVec 32 := Scalar.extui v357
  let c0_i32_167 : BitVec 32 := 0#32
  let v359 : BitVec 1 := Scalar.cmpi .ne v358 c0_i32_167
  v359

def k0_off11 (i : grid0.Coords) : Fin 3 → Nat :=
  let arg0 : BitVec 32 := BitVec.ofNat 32 (i 0).val
  let c1_i32_392 : BitVec 32 := 1#32
  let v621 : BitVec 32 := Scalar.addi arg0 c1_i32_392
  let c0_i32_393 : BitVec 32 := 0#32
  let c0_i32_394 : BitVec 32 := 0#32
  ![v621.toNat, 0, 0]
def k0_cond3 (i : grid0.Coords) : BitVec 1 :=
  let arg0 : BitVec 32 := BitVec.ofNat 32 (i 0).val
  let c1_i32_184 : BitVec 32 := 1#32
  let v379 : BitVec 32 := Scalar.addi arg0 c1_i32_184
  let c2_i32_185 : BitVec 32 := 2#32
  let v380 : BitVec 1 := Scalar.cmpi .slt v379 c2_i32_185
  let v381 : BitVec 32 := Scalar.extui v380
  let c0_i32_186 : BitVec 32 := 0#32
  let v382 : BitVec 1 := Scalar.cmpi .ne v381 c0_i32_186
  v382

def k0_off12 (i : grid0.Coords) : Fin 3 → Nat :=
  let arg0 : BitVec 32 := BitVec.ofNat 32 (i 0).val
  let c1_i32_392 : BitVec 32 := 1#32
  let v621 : BitVec 32 := Scalar.addi arg0 c1_i32_392
  let c0_i32_396 : BitVec 32 := 0#32
  let c0_i32_397 : BitVec 32 := 0#32
  ![v621.toNat, 0, 0]
def k0_cond4 (i : grid0.Coords) : BitVec 1 :=
  let arg0 : BitVec 32 := BitVec.ofNat 32 (i 0).val
  let c1_i32_202 : BitVec 32 := 1#32
  let v402 : BitVec 32 := Scalar.addi arg0 c1_i32_202
  let c2_i32_203 : BitVec 32 := 2#32
  let v403 : BitVec 1 := Scalar.cmpi .slt v402 c2_i32_203
  let v404 : BitVec 32 := Scalar.extui v403
  let c0_i32_204 : BitVec 32 := 0#32
  let v405 : BitVec 1 := Scalar.cmpi .ne v404 c0_i32_204
  v405

def k0_off13 (i : grid0.Coords) : Fin 3 → Nat :=
  let arg0 : BitVec 32 := BitVec.ofNat 32 (i 0).val
  let c1_i32_392 : BitVec 32 := 1#32
  let v621 : BitVec 32 := Scalar.addi arg0 c1_i32_392
  let c0_i32_396 : BitVec 32 := 0#32
  let c12288_i32_397 : BitVec 32 := 12288#32
  ![v621.toNat, 0, 12288]
def k0_cond5 (i : grid0.Coords) : BitVec 1 :=
  let arg0 : BitVec 32 := BitVec.ofNat 32 (i 0).val
  let c1_i32_227 : BitVec 32 := 1#32
  let v431 : BitVec 32 := Scalar.addi arg0 c1_i32_227
  let c2_i32_228 : BitVec 32 := 2#32
  let v432 : BitVec 1 := Scalar.cmpi .slt v431 c2_i32_228
  let v433 : BitVec 32 := Scalar.extui v432
  let c0_i32_229 : BitVec 32 := 0#32
  let v434 : BitVec 1 := Scalar.cmpi .ne v433 c0_i32_229
  v434

def k0_off14 (i : grid0.Coords) : Fin 3 → Nat :=
  let arg0 : BitVec 32 := BitVec.ofNat 32 (i 0).val
  let c1_i32_392 : BitVec 32 := 1#32
  let v621 : BitVec 32 := Scalar.addi arg0 c1_i32_392
  let c0_i32_396 : BitVec 32 := 0#32
  let c24576_i32_397 : BitVec 32 := 24576#32
  ![v621.toNat, 0, 24576]
def k0_cond6 (i : grid0.Coords) : BitVec 1 :=
  let arg0 : BitVec 32 := BitVec.ofNat 32 (i 0).val
  let c1_i32_252 : BitVec 32 := 1#32
  let v460 : BitVec 32 := Scalar.addi arg0 c1_i32_252
  let c2_i32_253 : BitVec 32 := 2#32
  let v461 : BitVec 1 := Scalar.cmpi .slt v460 c2_i32_253
  let v462 : BitVec 32 := Scalar.extui v461
  let c0_i32_254 : BitVec 32 := 0#32
  let v463 : BitVec 1 := Scalar.cmpi .ne v462 c0_i32_254
  v463

def k0_off15 (i : grid0.Coords) : Fin 3 → Nat :=
  let arg0 : BitVec 32 := BitVec.ofNat 32 (i 0).val
  let c1_i32_392 : BitVec 32 := 1#32
  let v621 : BitVec 32 := Scalar.addi arg0 c1_i32_392
  let c0_i32_396 : BitVec 32 := 0#32
  let c36864_i32_397 : BitVec 32 := 36864#32
  ![v621.toNat, 0, 36864]
def k0_cond7 (i : grid0.Coords) : BitVec 1 :=
  let arg0 : BitVec 32 := BitVec.ofNat 32 (i 0).val
  let c1_i32_277 : BitVec 32 := 1#32
  let v489 : BitVec 32 := Scalar.addi arg0 c1_i32_277
  let c2_i32_278 : BitVec 32 := 2#32
  let v490 : BitVec 1 := Scalar.cmpi .slt v489 c2_i32_278
  let v491 : BitVec 32 := Scalar.extui v490
  let c0_i32_279 : BitVec 32 := 0#32
  let v492 : BitVec 1 := Scalar.cmpi .ne v491 c0_i32_279
  v492

def k0_off16 (i : grid0.Coords) : Fin 3 → Nat :=
  let arg0 : BitVec 32 := BitVec.ofNat 32 (i 0).val
  let c1_i32_392 : BitVec 32 := 1#32
  let v621 : BitVec 32 := Scalar.addi arg0 c1_i32_392
  let c0_i32_396 : BitVec 32 := 0#32
  let c49152_i32_397 : BitVec 32 := 49152#32
  ![v621.toNat, 0, 49152]
def k0_cond8 (i : grid0.Coords) : BitVec 1 :=
  let arg0 : BitVec 32 := BitVec.ofNat 32 (i 0).val
  let c1_i32_302 : BitVec 32 := 1#32
  let v518 : BitVec 32 := Scalar.addi arg0 c1_i32_302
  let c2_i32_303 : BitVec 32 := 2#32
  let v519 : BitVec 1 := Scalar.cmpi .slt v518 c2_i32_303
  let v520 : BitVec 32 := Scalar.extui v519
  let c0_i32_304 : BitVec 32 := 0#32
  let v521 : BitVec 1 := Scalar.cmpi .ne v520 c0_i32_304
  v521

def k0_off17 (i : grid0.Coords) : Fin 3 → Nat :=
  let arg0 : BitVec 32 := BitVec.ofNat 32 (i 0).val
  let c1_i32_392 : BitVec 32 := 1#32
  let v621 : BitVec 32 := Scalar.addi arg0 c1_i32_392
  let c0_i32_396 : BitVec 32 := 0#32
  let c61440_i32_397 : BitVec 32 := 61440#32
  ![v621.toNat, 0, 61440]
def k0_cond9 (i : grid0.Coords) : BitVec 1 :=
  let arg0 : BitVec 32 := BitVec.ofNat 32 (i 0).val
  let c1_i32_327 : BitVec 32 := 1#32
  let v547 : BitVec 32 := Scalar.addi arg0 c1_i32_327
  let c2_i32_328 : BitVec 32 := 2#32
  let v548 : BitVec 1 := Scalar.cmpi .slt v547 c2_i32_328
  let v549 : BitVec 32 := Scalar.extui v548
  let c0_i32_329 : BitVec 32 := 0#32
  let v550 : BitVec 1 := Scalar.cmpi .ne v549 c0_i32_329
  v550

def k0_off18 (i : grid0.Coords) : Fin 3 → Nat :=
  let arg0 : BitVec 32 := BitVec.ofNat 32 (i 0).val
  let c1_i32_392 : BitVec 32 := 1#32
  let v621 : BitVec 32 := Scalar.addi arg0 c1_i32_392
  let c0_i32_396 : BitVec 32 := 0#32
  let c73728_i32_397 : BitVec 32 := 73728#32
  ![v621.toNat, 0, 73728]
def k0_cond10 (i : grid0.Coords) : BitVec 1 :=
  let arg0 : BitVec 32 := BitVec.ofNat 32 (i 0).val
  let c1_i32_352 : BitVec 32 := 1#32
  let v576 : BitVec 32 := Scalar.addi arg0 c1_i32_352
  let c2_i32_353 : BitVec 32 := 2#32
  let v577 : BitVec 1 := Scalar.cmpi .slt v576 c2_i32_353
  let v578 : BitVec 32 := Scalar.extui v577
  let c0_i32_354 : BitVec 32 := 0#32
  let v579 : BitVec 1 := Scalar.cmpi .ne v578 c0_i32_354
  v579

def k0_off19 (i : grid0.Coords) : Fin 3 → Nat :=
  let arg0 : BitVec 32 := BitVec.ofNat 32 (i 0).val
  let c1_i32_392 : BitVec 32 := 1#32
  let v621 : BitVec 32 := Scalar.addi arg0 c1_i32_392
  let c0_i32_396 : BitVec 32 := 0#32
  let c86016_i32_397 : BitVec 32 := 86016#32
  ![v621.toNat, 0, 86016]
def k0_cond11 (i : grid0.Coords) : BitVec 1 :=
  let arg0 : BitVec 32 := BitVec.ofNat 32 (i 0).val
  let c1_i32_377 : BitVec 32 := 1#32
  let v605 : BitVec 32 := Scalar.addi arg0 c1_i32_377
  let c2_i32_378 : BitVec 32 := 2#32
  let v606 : BitVec 1 := Scalar.cmpi .slt v605 c2_i32_378
  let v607 : BitVec 32 := Scalar.extui v606
  let c0_i32_379 : BitVec 32 := 0#32
  let v608 : BitVec 1 := Scalar.cmpi .ne v607 c0_i32_379
  v608

def k0_off20 (i : grid0.Coords) : Fin 3 → Nat :=
  let arg0 : BitVec 32 := BitVec.ofNat 32 (i 0).val
  let c1_i32_392 : BitVec 32 := 1#32
  let v621 : BitVec 32 := Scalar.addi arg0 c1_i32_392
  let c0_i32_396 : BitVec 32 := 0#32
  let c98304_i32_397 : BitVec 32 := 98304#32
  ![v621.toNat, 0, 98304]
-- ==== ReferenceIdeal.lean ====
abbrev S2x64x48x48x48 : Shape := ⟨5, ![2, 64, 48, 48, 48]⟩
abbrev S2x16x48x48x48 : Shape := ⟨5, ![2, 16, 48, 48, 48]⟩
abbrev S2x64x110592 : Shape := ⟨3, ![2, 64, 110592]⟩
abbrev S2x110592x64 : Shape := ⟨3, ![2, 110592, 64]⟩
abbrev S2x16x110592 : Shape := ⟨3, ![2, 16, 110592]⟩
abbrev S2x110592x16 : Shape := ⟨3, ![2, 110592, 16]⟩
abbrev S1x110592x64 : Shape := ⟨3, ![1, 110592, 64]⟩
abbrev S110592x64 : Shape := ⟨2, ![110592, 64]⟩
abbrev S1x110592x16 : Shape := ⟨3, ![1, 110592, 16]⟩
abbrev S110592x16 : Shape := ⟨2, ![110592, 16]⟩
abbrev S_ : Shape := ⟨0, ![]⟩
abbrev S110592 : Shape := ⟨1, ![110592]⟩
abbrev S110592x1 : Shape := ⟨2, ![110592, 1]⟩
abbrev S110592x1x1 : Shape := ⟨3, ![110592, 1, 1]⟩
abbrev S1 : Shape := ⟨1, ![1]⟩
abbrev S1x1x1 : Shape := ⟨3, ![1, 1, 1]⟩
abbrev S16 : Shape := ⟨1, ![16]⟩
abbrev S1x16 : Shape := ⟨2, ![1, 16]⟩
abbrev S16x64 : Shape := ⟨2, ![16, 64]⟩
abbrev S16x1 : Shape := ⟨2, ![16, 1]⟩
abbrev S2x48x48x48x64 : Shape := ⟨5, ![2, 48, 48, 48, 64]⟩

abbrev nBuf : Space → Nat
  | .hbm => 260
  | .vmem => 0
  | .smem => 0
  | _ => 0

abbrev hbmTy0_0 (i : Nat) : BufTy := match i % 128 with
  | 0 => ⟨S2x64x48x48x48, .f32⟩
  | 1 => ⟨S2x16x48x48x48, .f32⟩
  | 2 => ⟨S2x64x110592, .f32⟩
  | 3 => ⟨S2x110592x64, .f32⟩
  | 4 => ⟨S2x16x110592, .f32⟩
  | 5 => ⟨S2x110592x16, .f32⟩
  | 6 => ⟨S1x110592x64, .f32⟩
  | 7 => ⟨S110592x64, .f32⟩
  | 8 => ⟨S1x110592x16, .f32⟩
  | 9 => ⟨S110592x16, .f32⟩
  | 10 => ⟨S110592x16, .i32⟩
  | 11 => ⟨S_, .f32⟩
  | 12 => ⟨S_, .i32⟩
  | 13 => ⟨S110592, .f32⟩
  | 14 => ⟨S110592, .i32⟩
  | 15 => ⟨S110592x1, .i32⟩
  | 16 => ⟨S_, .i32⟩
  | 17 => ⟨S110592x1, .i32⟩
  | 18 => ⟨S110592x1, .i1⟩
  | 19 => ⟨S_, .i32⟩
  | 20 => ⟨S110592x1, .i32⟩
  | 21 => ⟨S110592x1, .i32⟩
  | 22 => ⟨S110592x1, .i32⟩
  | 23 => ⟨S110592x1x1, .i32⟩
  | 24 => ⟨S1, .i32⟩
  | 25 => ⟨S_, .i32⟩
  | 26 => ⟨S110592x1x1, .i32⟩
  | 27 => ⟨S110592x1x1, .i1⟩
  | 28 => ⟨S1x1x1, .i32⟩
  | 29 => ⟨S110592x1x1, .i32⟩
  | 30 => ⟨S110592x1x1, .i1⟩
  | 31 => ⟨S110592x1x1, .i1⟩
  | 32 => ⟨S_, .i1⟩
  | 33 => ⟨S110592x1, .i1⟩
  | 34 => ⟨S110592x1, .f32⟩
  | 35 => ⟨S_, .f32⟩
  | 36 => ⟨S110592x1, .f32⟩
  | 37 => ⟨S110592x1, .f32⟩
  | 38 => ⟨S110592, .f32⟩
  | 39 => ⟨S16, .i32⟩
  | 40 => ⟨S110592x1, .i32⟩
  | 41 => ⟨S1x16, .i32⟩
  | 42 => ⟨S110592x16, .i32⟩
  | 43 => ⟨S110592x16, .i32⟩
  | 44 => ⟨S110592x16, .i1⟩
  | 45 => ⟨S110592x1, .f32⟩
  | 46 => ⟨S_, .f32⟩
  | 47 => ⟨S_, .f32⟩
  | 48 => ⟨S110592x16, .f32⟩
  | 49 => ⟨S110592x16, .f32⟩
  | 50 => ⟨S110592x16, .f32⟩
  | 51 => ⟨S_, .f32⟩
  | 52 => ⟨S16, .f32⟩
  | 53 => ⟨S16, .f32⟩
  | 54 => ⟨S_, .f32⟩
  | 55 => ⟨S16, .f32⟩
  | 56 => ⟨S16, .i1⟩
  | 57 => ⟨S_, .f32⟩
  | 58 => ⟨S_, .f32⟩
  | 59 => ⟨S16, .f32⟩
  | 60 => ⟨S16, .f32⟩
  | 61 => ⟨S_, .i32⟩
  | 62 => ⟨S110592, .i32⟩
  | 63 => ⟨S110592, .i1⟩
  | 64 => ⟨S_, .i32⟩
  | 65 => ⟨S110592, .i32⟩
  | 66 => ⟨S110592, .i32⟩
  | 67 => ⟨S110592, .i32⟩
  | 68 => ⟨S110592x1, .i32⟩
  | 69 => ⟨S110592, .f32⟩
  | 70 => ⟨S110592, .f32⟩
  | 71 => ⟨S110592, .f32⟩
  | 72 => ⟨S_, .f32⟩
  | 73 => ⟨S16, .f32⟩
  | 74 => ⟨S110592x1, .i32⟩
  | 75 => ⟨S16, .f32⟩
  | 76 => ⟨S_, .f32⟩
  | 77 => ⟨S16, .f32⟩
  | 78 => ⟨S16, .i1⟩
  | 79 => ⟨S_, .f32⟩
  | 80 => ⟨S_, .f32⟩
  | 81 => ⟨S16, .f32⟩
  | 82 => ⟨S16, .f32⟩
  | 83 => ⟨S_, .i32⟩
  | 84 => ⟨S110592, .i32⟩
  | 85 => ⟨S110592, .i1⟩
  | 86 => ⟨S_, .i32⟩
  | 87 => ⟨S110592, .i32⟩
  | 88 => ⟨S110592, .i32⟩
  | 89 => ⟨S110592, .i32⟩
  | 90 => ⟨S110592x1, .i32⟩
  | 91 => ⟨S110592, .f32⟩
  | 92 => ⟨S110592, .f32⟩
  | 93 => ⟨S110592x1, .f32⟩
  | 94 => ⟨S110592x64, .f32⟩
  | 95 => ⟨S110592x64, .f32⟩
  | 96 => ⟨S_, .f32⟩
  | 97 => ⟨S16x64, .f32⟩
  | 98 => ⟨S110592x1, .i32⟩
  | 99 => ⟨S16x64, .f32⟩
  | 100 => ⟨S_, .f32⟩
  | 101 => ⟨S110592, .f32⟩
  | 102 => ⟨S_, .f32⟩
  | 103 => ⟨S16, .f32⟩
  | 104 => ⟨S110592x1, .i32⟩
  | 105 => ⟨S16, .f32⟩
  | 106 => ⟨S16x1, .f32⟩
  | 107 => ⟨S_, .f32⟩
  | 108 => ⟨S16x1, .f32⟩
  | 109 => ⟨S16x1, .i1⟩
  | 110 => ⟨S_, .f32⟩
  | 111 => ⟨S16, .f32⟩
  | 112 => ⟨S16, .f32⟩
  | 113 => ⟨S16x1, .f32⟩
  | 114 => ⟨S16x64, .f32⟩
  | 115 => ⟨S16x64, .f32⟩
  | 116 => ⟨S_, .f32⟩
  | 117 => ⟨S_, .f32⟩
  | 118 => ⟨S16x64, .i1⟩
  | 119 => ⟨S16x64, .f32⟩
  | 120 => ⟨S16x64, .f32⟩
  | 121 => ⟨S_, .i32⟩
  | 122 => ⟨S110592, .i32⟩
  | 123 => ⟨S110592, .i1⟩
  | 124 => ⟨S_, .i32⟩
  | 125 => ⟨S110592, .i32⟩
  | 126 => ⟨S110592, .i32⟩
  | 127 => ⟨S110592, .i32⟩
  | _ => ⟨S2x64x48x48x48, .f32⟩

abbrev hbmTy0_1 (i : Nat) : BufTy := match i % 128 with
  | 0 => ⟨S110592x1, .i32⟩
  | 1 => ⟨S110592x64, .f32⟩
  | 2 => ⟨S1x110592x64, .f32⟩
  | 3 => ⟨S110592x64, .f32⟩
  | 4 => ⟨S1x110592x16, .f32⟩
  | 5 => ⟨S110592x16, .f32⟩
  | 6 => ⟨S110592x16, .i32⟩
  | 7 => ⟨S_, .f32⟩
  | 8 => ⟨S_, .i32⟩
  | 9 => ⟨S110592, .f32⟩
  | 10 => ⟨S110592, .i32⟩
  | 11 => ⟨S110592x1, .i32⟩
  | 12 => ⟨S_, .i32⟩
  | 13 => ⟨S110592x1, .i32⟩
  | 14 => ⟨S110592x1, .i1⟩
  | 15 => ⟨S_, .i32⟩
  | 16 => ⟨S110592x1, .i32⟩
  | 17 => ⟨S110592x1, .i32⟩
  | 18 => ⟨S110592x1, .i32⟩
  | 19 => ⟨S110592x1x1, .i32⟩
  | 20 => ⟨S1, .i32⟩
  | 21 => ⟨S_, .i32⟩
  | 22 => ⟨S110592x1x1, .i32⟩
  | 23 => ⟨S110592x1x1, .i1⟩
  | 24 => ⟨S1x1x1, .i32⟩
  | 25 => ⟨S110592x1x1, .i32⟩
  | 26 => ⟨S110592x1x1, .i1⟩
  | 27 => ⟨S110592x1x1, .i1⟩
  | 28 => ⟨S_, .i1⟩
  | 29 => ⟨S110592x1, .i1⟩
  | 30 => ⟨S110592x1, .f32⟩
  | 31 => ⟨S_, .f32⟩
  | 32 => ⟨S110592x1, .f32⟩
  | 33 => ⟨S110592x1, .f32⟩
  | 34 => ⟨S110592, .f32⟩
  | 35 => ⟨S16, .i32⟩
  | 36 => ⟨S110592x1, .i32⟩
  | 37 => ⟨S1x16, .i32⟩
  | 38 => ⟨S110592x16, .i32⟩
  | 39 => ⟨S110592x16, .i32⟩
  | 40 => ⟨S110592x16, .i1⟩
  | 41 => ⟨S110592x1, .f32⟩
  | 42 => ⟨S_, .f32⟩
  | 43 => ⟨S_, .f32⟩
  | 44 => ⟨S110592x16, .f32⟩
  | 45 => ⟨S110592x16, .f32⟩
  | 46 => ⟨S110592x16, .f32⟩
  | 47 => ⟨S_, .f32⟩
  | 48 => ⟨S16, .f32⟩
  | 49 => ⟨S16, .f32⟩
  | 50 => ⟨S_, .f32⟩
  | 51 => ⟨S16, .f32⟩
  | 52 => ⟨S16, .i1⟩
  | 53 => ⟨S_, .f32⟩
  | 54 => ⟨S_, .f32⟩
  | 55 => ⟨S16, .f32⟩
  | 56 => ⟨S16, .f32⟩
  | 57 => ⟨S_, .i32⟩
  | 58 => ⟨S110592, .i32⟩
  | 59 => ⟨S110592, .i1⟩
  | 60 => ⟨S_, .i32⟩
  | 61 => ⟨S110592, .i32⟩
  | 62 => ⟨S110592, .i32⟩
  | 63 => ⟨S110592, .i32⟩
  | 64 => ⟨S110592x1, .i32⟩
  | 65 => ⟨S110592, .f32⟩
  | 66 => ⟨S110592, .f32⟩
  | 67 => ⟨S110592, .f32⟩
  | 68 => ⟨S_, .f32⟩
  | 69 => ⟨S16, .f32⟩
  | 70 => ⟨S110592x1, .i32⟩
  | 71 => ⟨S16, .f32⟩
  | 72 => ⟨S_, .f32⟩
  | 73 => ⟨S16, .f32⟩
  | 74 => ⟨S16, .i1⟩
  | 75 => ⟨S_, .f32⟩
  | 76 => ⟨S_, .f32⟩
  | 77 => ⟨S16, .f32⟩
  | 78 => ⟨S16, .f32⟩
  | 79 => ⟨S_, .i32⟩
  | 80 => ⟨S110592, .i32⟩
  | 81 => ⟨S110592, .i1⟩
  | 82 => ⟨S_, .i32⟩
  | 83 => ⟨S110592, .i32⟩
  | 84 => ⟨S110592, .i32⟩
  | 85 => ⟨S110592, .i32⟩
  | 86 => ⟨S110592x1, .i32⟩
  | 87 => ⟨S110592, .f32⟩
  | 88 => ⟨S110592, .f32⟩
  | 89 => ⟨S110592x1, .f32⟩
  | 90 => ⟨S110592x64, .f32⟩
  | 91 => ⟨S110592x64, .f32⟩
  | 92 => ⟨S_, .f32⟩
  | 93 => ⟨S16x64, .f32⟩
  | 94 => ⟨S110592x1, .i32⟩
  | 95 => ⟨S16x64, .f32⟩
  | 96 => ⟨S_, .f32⟩
  | 97 => ⟨S110592, .f32⟩
  | 98 => ⟨S_, .f32⟩
  | 99 => ⟨S16, .f32⟩
  | 100 => ⟨S110592x1, .i32⟩
  | 101 => ⟨S16, .f32⟩
  | 102 => ⟨S16x1, .f32⟩
  | 103 => ⟨S_, .f32⟩
  | 104 => ⟨S16x1, .f32⟩
  | 105 => ⟨S16x1, .i1⟩
  | 106 => ⟨S_, .f32⟩
  | 107 => ⟨S16, .f32⟩
  | 108 => ⟨S16, .f32⟩
  | 109 => ⟨S16x1, .f32⟩
  | 110 => ⟨S16x64, .f32⟩
  | 111 => ⟨S16x64, .f32⟩
  | 112 => ⟨S_, .f32⟩
  | 113 => ⟨S_, .f32⟩
  | 114 => ⟨S16x64, .i1⟩
  | 115 => ⟨S16x64, .f32⟩
  | 116 => ⟨S16x64, .f32⟩
  | 117 => ⟨S_, .i32⟩
  | 118 => ⟨S110592, .i32⟩
  | 119 => ⟨S110592, .i1⟩
  | 120 => ⟨S_, .i32⟩
  | 121 => ⟨S110592, .i32⟩
  | 122 => ⟨S110592, .i32⟩
  | 123 => ⟨S110592, .i32⟩
  | 124 => ⟨S110592x1, .i32⟩
  | 125 => ⟨S110592x64, .f32⟩
  | 126 => ⟨S1x110592x64, .f32⟩
  | 127 => ⟨S1x110592x64, .f32⟩
  | _ => ⟨S2x64x48x48x48, .f32⟩

abbrev hbmTy0_2 (i : Nat) : BufTy := match i % 128 with
  | 0 => ⟨S2x110592x64, .f32⟩
  | 1 => ⟨S2x48x48x48x64, .f32⟩
  | 2 => ⟨S2x64x48x48x48, .f32⟩
  | 3 => ⟨S2x64x48x48x48, .f32⟩
  | _ => ⟨S2x64x48x48x48, .f32⟩

abbrev hbmTy (i : Nat) : BufTy := match i / 128 with
  | 0 => hbmTy0_0 i
  | 1 => hbmTy0_1 i
  | 2 => hbmTy0_2 i
  | _ => ⟨S2x64x48x48x48, .f32⟩

abbrev bufTy : (tb : Table) → Fin (tcTables nBuf tb) → BufTy
  | .hbm, ⟨i, _⟩ => hbmTy i
  | _, _ => ⟨S2x64x48x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_cst : Ref sig .tc := ⟨.hbm, 11, rfl⟩
abbrev main_call0_c : Ref sig .tc := ⟨.hbm, 12, rfl⟩
abbrev main_call0_v1_0 : Ref sig .tc := ⟨.hbm, 13, rfl⟩
abbrev main_v8 : Ref sig .tc := ⟨.hbm, 14, rfl⟩
abbrev main_v9 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_cst : Ref sig .tc := ⟨.hbm, 35, rfl⟩
abbrev main_call1_v14 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v19 : Ref sig .tc := ⟨.hbm, 50, rfl⟩
abbrev main_cst_0 : Ref sig .tc := ⟨.hbm, 51, rfl⟩
abbrev main_v20 : Ref sig .tc := ⟨.hbm, 52, rfl⟩
abbrev main_v21 : Ref sig .tc := ⟨.hbm, 53, rfl⟩
abbrev main_cst_1 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_call3_v0 : Ref sig .tc := ⟨.hbm, 58, rfl⟩
abbrev main_call3_v1 : Ref sig .tc := ⟨.hbm, 59, rfl⟩
abbrev main_v24 : Ref sig .tc := ⟨.hbm, 60, rfl⟩
abbrev main_c : Ref sig .tc := ⟨.hbm, 61, rfl⟩
abbrev main_v25 : Ref sig .tc := ⟨.hbm, 62, rfl⟩
abbrev main_v26 : Ref sig .tc := ⟨.hbm, 63, rfl⟩
abbrev main_c_3 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_4 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_5 : Ref sig .tc := ⟨.hbm, 76, rfl⟩
abbrev main_v37 : Ref sig .tc := ⟨.hbm, 77, rfl⟩
abbrev main_v38 : Ref sig .tc := ⟨.hbm, 78, rfl⟩
abbrev main_cst_6 : Ref sig .tc := ⟨.hbm, 79, rfl⟩
abbrev main_call4_v0 : Ref sig .tc := ⟨.hbm, 80, rfl⟩
abbrev main_call4_v1 : Ref sig .tc := ⟨.hbm, 81, rfl⟩
abbrev main_v39 : Ref sig .tc := ⟨.hbm, 82, rfl⟩
abbrev main_c_7 : Ref sig .tc := ⟨.hbm, 83, rfl⟩
abbrev main_v40 : Ref sig .tc := ⟨.hbm, 84, rfl⟩
abbrev main_v41 : Ref sig .tc := ⟨.hbm, 85, rfl⟩
abbrev main_c_8 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_9 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_10 : Ref sig .tc := ⟨.hbm, 100, rfl⟩
abbrev main_v54 : Ref sig .tc := ⟨.hbm, 101, rfl⟩
abbrev main_cst_11 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_cst_12 : Ref sig .tc := ⟨.hbm, 107, rfl⟩
abbrev main_v59 : Ref sig .tc := ⟨.hbm, 108, rfl⟩
abbrev main_v60 : Ref sig .tc := ⟨.hbm, 109, rfl⟩
abbrev main_cst_13 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_14 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_v66 : Ref sig .tc := ⟨.hbm, 120, rfl⟩
abbrev main_c_15 : Ref sig .tc := ⟨.hbm, 121, rfl⟩
abbrev main_v67 : Ref sig .tc := ⟨.hbm, 122, rfl⟩
abbrev main_v68 : Ref sig .tc := ⟨.hbm, 123, rfl⟩
abbrev main_c_16 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_call6_v0 : Ref sig .tc := ⟨.hbm, 134, rfl⟩
abbrev main_call6_cst : Ref sig .tc := ⟨.hbm, 135, rfl⟩
abbrev main_call6_c : Ref sig .tc := ⟨.hbm, 136, rfl⟩
abbrev main_call6_v1_0 : Ref sig .tc := ⟨.hbm, 137, rfl⟩
abbrev main_v78 : Ref sig .tc := ⟨.hbm, 138, rfl⟩
abbrev main_v79 : Ref sig .tc := ⟨.hbm, 139, rfl⟩
abbrev main_call7_c : Ref sig .tc := ⟨.hbm, 140, rfl⟩
abbrev main_call7_v0 : Ref sig .tc := ⟨.hbm, 141, rfl⟩
abbrev main_call7_v1 : Ref sig .tc := ⟨.hbm, 142, rfl⟩
abbrev main_call7_c_0 : Ref sig .tc := ⟨.hbm, 143, rfl⟩
abbrev main_call7_v2 : Ref sig .tc := ⟨.hbm, 144, rfl⟩
abbrev main_call7_v3 : Ref sig .tc := ⟨.hbm, 145, rfl⟩
abbrev main_call7_v4 : Ref sig .tc := ⟨.hbm, 146, rfl⟩
abbrev main_call7_v5 : Ref sig .tc := ⟨.hbm, 147, rfl⟩
abbrev main_call7_c_1 : Ref sig .tc := ⟨.hbm, 148, rfl⟩
abbrev main_call7_c_2 : Ref sig .tc := ⟨.hbm, 149, rfl⟩
abbrev main_call7_v6 : Ref sig .tc := ⟨.hbm, 150, rfl⟩
abbrev main_call7_v7 : Ref sig .tc := ⟨.hbm, 151, rfl⟩
abbrev main_call7_v8 : Ref sig .tc := ⟨.hbm, 152, rfl⟩
abbrev main_call7_v9 : Ref sig .tc := ⟨.hbm, 153, rfl⟩
abbrev main_call7_v10 : Ref sig .tc := ⟨.hbm, 154, rfl⟩
abbrev main_call7_v11 : Ref sig .tc := ⟨.hbm, 155, rfl⟩
abbrev main_call7_c_3 : Ref sig .tc := ⟨.hbm, 156, rfl⟩
abbrev main_call7_v12 : Ref sig .tc := ⟨.hbm, 157, rfl⟩
abbrev main_call7_v13 : Ref sig .tc := ⟨.hbm, 158, rfl⟩
abbrev main_call7_cst : Ref sig .tc := ⟨.hbm, 159, rfl⟩
abbrev main_call7_v14 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_cst_17 : Ref sig .tc := ⟨.hbm, 170, rfl⟩
abbrev main_call8_v0 : Ref sig .tc := ⟨.hbm, 171, rfl⟩
abbrev main_call8_v1 : Ref sig .tc := ⟨.hbm, 172, rfl⟩
abbrev main_call8_v2 : Ref sig .tc := ⟨.hbm, 173, rfl⟩
abbrev main_v89 : Ref sig .tc := ⟨.hbm, 174, rfl⟩
abbrev main_cst_18 : Ref sig .tc := ⟨.hbm, 175, rfl⟩
abbrev main_v90 : Ref sig .tc := ⟨.hbm, 176, rfl⟩
abbrev main_v91 : Ref sig .tc := ⟨.hbm, 177, rfl⟩
abbrev main_cst_19 : Ref sig .tc := ⟨.hbm, 178, rfl⟩
abbrev main_v92 : Ref sig .tc := ⟨.hbm, 179, rfl⟩
abbrev main_v93 : Ref sig .tc := ⟨.hbm, 180, rfl⟩
abbrev main_cst_20 : Ref sig .tc := ⟨.hbm, 181, rfl⟩
abbrev main_call9_v0 : Ref sig .tc := ⟨.hbm, 182, rfl⟩
abbrev main_call9_v1 : Ref sig .tc := ⟨.hbm, 183, rfl⟩
abbrev main_v94 : Ref sig .tc := ⟨.hbm, 184, rfl⟩
abbrev main_c_21 : Ref sig .tc := ⟨.hbm, 185, rfl⟩
abbrev main_v95 : Ref sig .tc := ⟨.hbm, 186, rfl⟩
abbrev main_v96 : Ref sig .tc := ⟨.hbm, 187, rfl⟩
abbrev main_c_22 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_cst_23 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_cst_24 : Ref sig .tc := ⟨.hbm, 200, rfl⟩
abbrev main_v107 : Ref sig .tc := ⟨.hbm, 201, rfl⟩
abbrev main_v108 : Ref sig .tc := ⟨.hbm, 202, rfl⟩
abbrev main_cst_25 : Ref sig .tc := ⟨.hbm, 203, rfl⟩
abbrev main_call10_v0 : Ref sig .tc := ⟨.hbm, 204, rfl⟩
abbrev main_call10_v1 : Ref sig .tc := ⟨.hbm, 205, rfl⟩
abbrev main_v109 : Ref sig .tc := ⟨.hbm, 206, rfl⟩
abbrev main_c_26 : Ref sig .tc := ⟨.hbm, 207, rfl⟩
abbrev main_v110 : Ref sig .tc := ⟨.hbm, 208, rfl⟩
abbrev main_v111 : Ref sig .tc := ⟨.hbm, 209, rfl⟩
abbrev main_c_27 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩
abbrev main_cst_28 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_cst_29 : Ref sig .tc := ⟨.hbm, 224, rfl⟩
abbrev main_v124 : Ref sig .tc := ⟨.hbm, 225, rfl⟩
abbrev main_cst_30 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_cst_31 : Ref sig .tc := ⟨.hbm, 231, rfl⟩
abbrev main_v129 : Ref sig .tc := ⟨.hbm, 232, rfl⟩
abbrev main_v130 : Ref sig .tc := ⟨.hbm, 233, rfl⟩
abbrev main_cst_32 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_cst_33 : Ref sig .tc := ⟨.hbm, 240, rfl⟩
abbrev main_call11_v0 : Ref sig .tc := ⟨.hbm, 241, rfl⟩
abbrev main_call11_v1 : Ref sig .tc := ⟨.hbm, 242, rfl⟩
abbrev main_call11_v2 : Ref sig .tc := ⟨.hbm, 243, rfl⟩
abbrev main_v136 : Ref sig .tc := ⟨.hbm, 244, rfl⟩
abbrev main_c_34 : Ref sig .tc := ⟨.hbm, 245, rfl⟩
abbrev main_v137 : Ref sig .tc := ⟨.hbm, 246, rfl⟩
abbrev main_v138 : Ref sig .tc := ⟨.hbm, 247, rfl⟩
abbrev main_c_35 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_v149 : Ref sig .tc := ⟨.hbm, 259, rfl⟩

abbrev nD : Nat := 1
abbrev τ : Topo := Topo.v7x

variable {F : FTy → Type} [FloatOps F]
-- ==== Proof.BaseIdeal.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The operands and the pieces they are held in -/

/-- The arrays left in HBM: the features, the predictions, the result. -/
abbrev aX : Memref sig .tc .hbm S2x64x110592 .f32 := Memref.whole main_call0_v0
abbrev aP : Memref sig .tc .hbm S2x16x110592 .f32 := Memref.whole main_call0_v1
abbrev aO : Memref sig .tc .hbm S2x64x110592 .f32 := Memref.whole main_call0_v2
/-- The scratch buffers: the features of one batch, its predictions, its classes, the two output slots. -/
abbrev bX : Memref sig .tc .vmem S64x110592 .f32 := Memref.whole cc0_scratch0
abbrev bP : Memref sig .tc .vmem S16x110592 .f32 := Memref.whole cc0_scratch1
abbrev bS : Memref sig .tc .vmem S1x110592 .i32 := Memref.whole cc0_scratch2
abbrev bO : Memref sig .tc .vmem S2x64x12288 .f32 := Memref.whole cc0_scratch3

/-- Contents of a buffer on core `c`. -/
abbrev Cont (c : Dev nD) {sp : Space} {S : Shape} {e : EltTy} (M : Memref sig .tc sp S e) : Type := Buf (Elt F) (M.view.loc (c : Thread nD τ))

/-- The elements of `M` under the rectangle `R`, held at contents `f` of the whole buffer. -/
abbrev under (c : Dev nD) {sp : Space} {S : Shape} {e : EltTy} (M : Memref sig .tc sp S e) (R : Rect S) (f : Cont (F := F) c M) : sProp 𝕄 :=
  M.view.loc (c : Thread nD τ) ↦[M.view.setOn R.set]{fullShare} f

/-- `M` held whole at contents `f`. -/
abbrev all (c : Dev nD) {sp : Space} {S : Shape} {e : EltTy} (M : Memref sig .tc sp S e) (f : Cont (F := F) c M) : sProp 𝕄 :=
  M.view.loc (c : Thread nD τ) ↦{fullShare} f

/-- Chunk `o` of one batch's features in HBM (and of the result), of the feature scratch; one batch's predictions; one output slot. -/
abbrev rA (b o : ℕ) (h : ∀ a, (![b, 0, o] : Fin 3 → ℕ) a + S1x64x12288.size a ≤ S2x64x110592.size a := by decide) : Rect S2x64x110592 :=
  Rect.unit (s := S2x64x110592) ![b, 0, o] S1x64x12288.size h
abbrev rB (o : ℕ) (h : ∀ a, (![0, o] : Fin 2 → ℕ) a + S64x12288.size a ≤ S64x110592.size a := by decide) : Rect S64x110592 :=
  Rect.unit (s := S64x110592) ![0, o] S64x12288.size h
abbrev rP (b : ℕ) (h : ∀ a, (![b, 0, 0] : Fin 3 → ℕ) a + S1x16x110592.size a ≤ S2x16x110592.size a := by decide) : Rect S2x16x110592 :=
  Rect.unit (s := S2x16x110592) ![b, 0, 0] S1x16x110592.size h
abbrev rO (k : ℕ) (h : ∀ a, (![k, 0, 0] : Fin 3 → ℕ) a + S1x64x12288.size a ≤ S2x64x12288.size a := by decide) : Rect S2x64x12288 :=
  Rect.unit (s := S2x64x12288) ![k, 0, 0] S1x64x12288.size h

abbrev i0 : grid0.Coords := fun a => ⟨0, by revert a; decide⟩
abbrev i1 : grid0.Coords := fun a => ⟨1, by revert a; decide⟩

/-- The body at a point. -/
abbrev body (i : grid0.Coords) : Prog (TpuEff nD τ sig (Elt F) Λ₀ .tc) PUnit :=
  cc0__body i aX (Memref.isWhole_whole _) aP (Memref.isWhole_whole _) aO (Memref.isWhole_whole _) bX (Memref.isWhole_whole _)
    bP (Memref.isWhole_whole _) bS (Memref.isWhole_whole _) bO (Memref.isWhole_whole _) cc0_scratch4 cc0_scratch5 cc0_scratch6

end Cert.KernelIdeal.Hand
-- ==== Proof.SpecIdeal.lean ====
module

public import proofs.«01_k».proof.Proof.BaseIdeal
public import Idealize.ShloMosaic.Lib.ValueIdxCore
public import Idealize.ShloMosaic.Lib.Pipeline.Value
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the kernel computes, chunk by chunk -/

/-- Voxel `y` of chunk `j`, counted in its batch. -/
abbrev vox (j : Fin 9) (y : Fin 12288) : Fin 110592 := ⟨12288 * j.val + y.val, by omega⟩

/-- Chunk `j` of batch `b` of the features, of the predictions. -/
def chX (x : Vec F S2x64x110592 .f32) (b : Fin 2) (j : Fin 9) : Vec F S64x12288 .f32 := fun y => x (ix3 b (y 0) (vox j (y 1)))
def chP (p : Vec F S2x16x110592 .f32) (b : Fin 2) (j : Fin 9) : Vec F S16x12288 .f32 := fun y => p (ix3 b (y 0) (vox j (y 1)))

/-- The three sums over the first `n` chunks: the weighted features, the weights, the voxels of each class. -/
def numTo (P : Fin 9 → Vec F S16x12288 .f32) (X : Fin 9 → Vec F S64x12288 .f32) : (n : ℕ) → n ≤ 9 → FVec F S16x64 .f32
  | 0, _ => k0_pay1
  | n + 1, h => k0_pay9 (numTo P X n (by omega)) (k0_pay8 (P ⟨n, h⟩)) (X ⟨n, h⟩)
def denTo (P : Fin 9 → Vec F S16x12288 .f32) : (n : ℕ) → n ≤ 9 → FVec F S16x1 .f32
  | 0, _ => k0_pay2
  | n + 1, h => k0_pay10 (denTo P n (by omega)) (k0_pay8 (P ⟨n, h⟩))
def cntTo (P : Fin 9 → Vec F S16x12288 .f32) : (n : ℕ) → n ≤ 9 → FVec F S16x1 .f32
  | 0, _ => k0_pay3
  | n + 1, h => k0_pay11 (cntTo P n (by omega)) (k0_pay7 (P ⟨n, h⟩))

/-- The class prototypes of a batch. -/
def proto (P : Fin 9 → Vec F S16x12288 .f32) (X : Fin 9 → Vec F S64x12288 .f32) : FVec F S16x64 .f32 :=
  k0_pay76 (cntTo P 8 (by omega)) (k0_pay7 (P 8)) (numTo P X 9 (by omega)) (denTo P 9 (by omega))

/-- Chunk `j` of the batch's result, with the slot's unit axis and without it. -/
def outS (P : Fin 9 → Vec F S16x12288 .f32) (X : Fin 9 → Vec F S64x12288 .f32) (j : Fin 9) : FVec F S1x64x12288 .f32 :=
  k0_pay79 (proto P X) (k0_pay6 (P j)) (X j)
def outC (P : Fin 9 → Vec F S16x12288 .f32) (X : Fin 9 → Vec F S64x12288 .f32) (j : Fin 9) : Vec F S64x12288 .f32 :=
  shapeCast S64x12288 (outS P X j) shapeCasts_S1x64x12288_S64x12288

/-- The whole result. -/
def OUT (x : Vec F S2x64x110592 .f32) (p : Vec F S2x16x110592 .f32) : Vec F S2x64x110592 .f32 := fun i =>
  outC (chP p (i 0)) (chX x (i 0)) ⟨(i 2).val / 12288, by have : (i 2).val < 110592 := (i 2).isLt; omega⟩
    (ix2 (i 1) ⟨(i 2).val % 12288, by omega⟩)

theorem OUT_at (x : Vec F S2x64x110592 .f32) (p : Vec F S2x16x110592 .f32) (b : Fin 2) (j : Fin 9) (y : S64x12288.Idx) :
    OUT x p (ix3 b (y 0) (vox j (y 1))) = outC (chP p b) (chX x b) j y := by
  have hy : (y 1).val < 12288 := (y 1).isLt
  have h1 : (⟨(12288 * j.val + (y 1).val) / 12288, by omega⟩ : Fin 9) = j := Fin.ext (by show _ / _ = _; omega)
  have h2 : (ix2 (y 0) ⟨(12288 * j.val + (y 1).val) % 12288, by omega⟩ : S64x12288.Idx) = y := by
    funext a
    fin_cases a
    · rfl
    · exact Fin.ext (by show (12288 * j.val + (y 1).val) % 12288 = (y 1).val; omega)
  show outC (chP p b) (chX x b) ⟨(12288 * j.val + (y 1).val) / 12288, _⟩ (ix2 (y 0) ⟨(12288 * j.val + (y 1).val) % 12288, _⟩) = _
  rw [h1, h2]

/-- The features of a batch, as the scratch holds them. -/
def batchX (x : Vec F S2x64x110592 .f32) (b : Fin 2) : Vec F S64x110592 .f32 := fun y => x (ix3 b (y 0) (y 1))

/-! ## The elements behind a chunk's memref -/

theorem squeeze_chunk {α : Type} (f : S1x64x12288.Idx → α) (h : S1x64x12288.ShapeCasts S64x12288) (y : S64x12288.Idx) :
    shapeCast S64x12288 f h y = f (ix3 (0 : Fin 1) (y 0) (y 1)) :=
  shapeCast_apply f h _ _ (by
    rw [Shape.rowMajor_val_three, Shape.rowMajor_val_two]
    show (0 * 64 + (y 0).val) * 12288 + (y 1).val = (y 0).val * 12288 + (y 1).val
    omega)

theorem squeeze_pred {α : Type} (f : S1x16x110592.Idx → α) (h : S1x16x110592.ShapeCasts S16x110592) (y : S16x110592.Idx) :
    shapeCast S16x110592 f h y = f (ix3 (0 : Fin 1) (y 0) (y 1)) :=
  shapeCast_apply f h _ _ (by
    rw [Shape.rowMajor_val_three, Shape.rowMajor_val_two]
    show (0 * 16 + (y 0).val) * 110592 + (y 1).val = (y 0).val * 110592 + (y 1).val
    omega)

/-- A copy of chunk `j` of batch `b` of the features reads that chunk. -/
theorem read_chunkX (c : Dev nD) (x : Cont (F := F) c aX) (b : Fin 2) (j : Fin 9) (off : Fin 3 → ℕ)
    (inb : ∀ a, off a + S1x64x12288.size a ≤ S2x64x110592.size a) (hr) (sq) (e : off = ![b.val, 0, 12288 * j.val]) :
    View.read (Elt F) ((aX.slice (Rect.unit (s := S2x64x110592) off S1x64x12288.size inb) hr).squeeze S64x12288 sq).view x = chX x b j := by
  subst e
  funext y
  refine (squeeze_chunk (fun i => x ((Rect.unit (s := S2x64x110592) _ S1x64x12288.size inb).emb i)) sq.numel_eq y).trans ?_
  refine congrArg x (funext fun a => ?_)
  match a with
  | ⟨0, _⟩ => exact Fin.ext (show b.val + 1 * 0 = b.val by omega)
  | ⟨1, _⟩ => exact Fin.ext (show 0 + 1 * (y 0).val = (y 0).val by omega)
  | ⟨2, _⟩ => exact Fin.ext (show 12288 * j.val + 1 * (y 1).val = 12288 * j.val + (y 1).val by omega)

/-- The predictions of a batch, as the copy reads them. -/
def batchP (p : Vec F S2x16x110592 .f32) (b : Fin 2) : Vec F S16x110592 .f32 := fun y => p (ix3 b (y 0) (y 1))

theorem read_batchP (c : Dev nD) (p : Cont (F := F) c aP) (b : Fin 2) (off : Fin 3 → ℕ)
    (inb : ∀ a, off a + S1x16x110592.size a ≤ S2x16x110592.size a) (hr) (sq) (e : off = ![b.val, 0, 0]) :
    View.read (Elt F) ((aP.slice (Rect.unit (s := S2x16x110592) off S1x16x110592.size inb) hr).squeeze S16x110592 sq).view p = batchP p b := by
  subst e
  funext y
  refine (squeeze_pred (fun i => p ((Rect.unit (s := S2x16x110592) _ S1x16x110592.size inb).emb i)) sq.numel_eq y).trans ?_
  refine congrArg p (funext fun a => ?_)
  match a with
  | ⟨0, _⟩ => exact Fin.ext (show b.val + 1 * 0 = b.val by omega)
  | ⟨1, _⟩ => exact Fin.ext (show 0 + 1 * (y 0).val = (y 0).val by omega)
  | ⟨2, _⟩ => exact Fin.ext (show 0 + 1 * (y 1).val = (y 1).val by omega)

/-- Once the predictions of a batch have landed, the loads of a chunk read that chunk of them. -/
theorem load_chunkP (c : Dev nD) (p : Vec F S2x16x110592 .f32) (pb : Cont (F := F) c bP) (b : Fin 2) (j : Fin 9) (off : Fin 2 → ℕ)
    (inb : ∀ a, off a + S16x12288.size a ≤ S16x110592.size a) (e : off = ![0, 12288 * j.val]) :
    View.readAt (Elt F) bP.view (Rect.unit (s := S16x110592) off S16x12288.size inb).toLoadRect
      (View.write (Elt F) bP.view pb (batchP p b) Finset.univ) = chP p b j := by
  subst e
  have hw : View.write (Elt F) bP.view pb (batchP p b) Finset.univ = batchP p b := View.write_whole_univ cc0_scratch1 pb (batchP p b)
  rw [hw]
  funext y
  refine congrArg p (funext fun a => ?_)
  match a with
  | ⟨0, _⟩ => rfl
  | ⟨1, _⟩ => exact Fin.ext (show 0 + 1 * (y 0).val = (y 0).val by omega)
  | ⟨2, _⟩ => exact Fin.ext (show 12288 * j.val + 1 * (y 1).val = 12288 * j.val + (y 1).val by omega)

/-- What a copy out of a slot reads is the slot's newest contents. -/
theorem read_slot (c : Dev nD) (ob : Cont (F := F) c bO) (off : Fin 3 → ℕ) (inb : ∀ a, off a + S1x64x12288.size a ≤ S2x64x12288.size a) (hr) (sq)
    (w : FVec F S1x64x12288 .f32) (L : List (View.Piece (Elt F) S2x64x12288 .f32)) :
    View.read (Elt F) ((bO.slice (Rect.unit (s := S2x64x12288) off S1x64x12288.size inb) hr).squeeze S64x12288 sq).view
      (bO.view.writes (Elt F) ob (⟨Rect.unit (s := S2x64x12288) off S1x64x12288.size inb, w⟩ :: L)) = shapeCast S64x12288 w shapeCasts_S1x64x12288_S64x12288 := by
  have h : View.readAt (Elt F) bO.view (Rect.unit (s := S2x64x12288) off S1x64x12288.size inb).toLoadRect
      (bO.view.writes (Elt F) ob (⟨Rect.unit (s := S2x64x12288) off S1x64x12288.size inb, w⟩ :: L)) = w :=
    funext fun y => View.read_writes_cons_emb bO.view ob (Rect.unit (s := S2x64x12288) off S1x64x12288.size inb) w L y
  refine (Memref.read_squeeze_slice bO _ hr sq shapeCasts_S1x64x12288_S64x12288 _).trans ?_
  rw [h]

/-- The place in the result of element `y` of the memref a chunk is copied to. -/
theorem emb_chunk (b : Fin 2) (j : Fin 9) (inb : ∀ a, (![b.val, 0, 12288 * j.val] : Fin 3 → ℕ) a + S1x64x12288.size a ≤ S2x64x110592.size a) (hr) (sq)
    (y : S64x12288.Idx) :
    ((aO.slice (Rect.unit (s := S2x64x110592) ![b.val, 0, 12288 * j.val] S1x64x12288.size inb) hr).squeeze S64x12288 sq).view.emb y
      = (ix3 b (y 0) (vox j (y 1)) : S2x64x110592.Idx) := by
  refine (squeeze_chunk (fun i => (Rect.unit (s := S2x64x110592) ![b.val, 0, 12288 * j.val] S1x64x12288.size inb).emb i) sq.numel_eq y).trans ?_
  funext a
  match a with
  | ⟨0, _⟩ => exact Fin.ext (show b.val + 1 * 0 = b.val by omega)
  | ⟨1, _⟩ => exact Fin.ext (show 0 + 1 * (y 0).val = (y 0).val by omega)
  | ⟨2, _⟩ => exact Fin.ext (show 12288 * j.val + 1 * (y 1).val = 12288 * j.val + (y 1).val by omega)

theorem write_at (c : Dev nD) (R : Vec F S2x64x110592 .f32) (o : Cont (F := F) c aO) (b : Fin 2) (j : Fin 9)
    (inb : ∀ a, (![b.val, 0, 12288 * j.val] : Fin 3 → ℕ) a + S1x64x12288.size a ≤ S2x64x110592.size a) (hr) (sq)
    (w : Vec F S64x12288 .f32) (hw : ∀ y, w y = R (ix3 b (y 0) (vox j (y 1)))) (i : S2x64x110592.Idx)
    (hi : i ∈ ((aO.slice (Rect.unit (s := S2x64x110592) ![b.val, 0, 12288 * j.val] S1x64x12288.size inb) hr).squeeze S64x12288 sq).view.set) :
    View.write (Elt F) ((aO.slice (Rect.unit (s := S2x64x110592) ![b.val, 0, 12288 * j.val] S1x64x12288.size inb) hr).squeeze S64x12288 sq).view o w Finset.univ i = R i := by
  obtain ⟨y, -, hy⟩ := Finset.mem_map.mp hi
  have h1 := View.write_emb_of_mem (v := ((aO.slice (Rect.unit (s := S2x64x110592) ![b.val, 0, 12288 * j.val] S1x64x12288.size inb) hr).squeeze S64x12288 sq).view) o w (Finset.mem_univ y)
  have h2 := emb_chunk b j inb hr sq y
  rw [hy] at h1 h2
  rw [h1, h2, cast_eq]
  exact hw y

/-- The elements of chunk `j` of batch `b` of the result, once the chunk has been copied out, hold the result. -/
theorem out_landed (c : Dev nD) (x : Vec F S2x64x110592 .f32) (p : Vec F S2x16x110592 .f32) (o : Cont (F := F) c aO) (b : Fin 2) (j : Fin 9)
    (off : Fin 3 → ℕ) (inb : ∀ a, off a + S1x64x12288.size a ≤ S2x64x110592.size a) (hr) (sq) (e : off = ![b.val, 0, 12288 * j.val])
    (w : Vec F S64x12288 .f32) (hw : w = outC (chP p b) (chX x b) j) (b' o' : ℕ) (hb : b' = b.val) (ho : o' = 12288 * j.val) (hA) :
    (aO.view.loc (c : Thread nD τ) ↦[aO.view.setOn (rA b' o' hA).set]{fullShare}
      View.write (Elt F) ((aO.slice (Rect.unit (s := S2x64x110592) off S1x64x12288.size inb) hr).squeeze S64x12288 sq).view o w Finset.univ : sProp 𝕄)
    = (aO.view.loc (c : Thread nD τ) ↦[aO.view.setOn (rA b' o' hA).set]{fullShare} OUT x p) := by
  subst hw; subst hb; subst ho; subst e
  have hs : aO.view.setOn (rA b.val _ hA).set
      = ((aO.slice (Rect.unit (s := S2x64x110592) ![b.val, 0, 12288 * j.val] S1x64x12288.size inb) hr).squeeze S64x12288 sq).view.set :=
    ((Memref.set_view_squeeze _ sq).trans (View.set_slice aO.view _)).symm
  exact pointsTo_congr fun i hi => write_at c (OUT x p) o b j inb hr sq _ (fun y => (OUT_at x p b j y).symm) i (hs ▸ hi)

/-! ## Where the copies of the features and of the predictions read and land -/

theorem src_X (b o : ℕ) (off : Fin 3 → ℕ) (inb : ∀ a, off a + S1x64x12288.size a ≤ S2x64x110592.size a) (hr) (sq) (hA) (e : off = ![b, 0, o]) :
    ((aX.slice (Rect.unit (s := S2x64x110592) off S1x64x12288.size inb) hr).squeeze S64x12288 sq).view.set = aX.view.setOn (rA b o hA).set := by
  subst e
  exact (Memref.set_view_squeeze _ sq).trans (View.set_slice aX.view _)

theorem src_P (b : ℕ) (off : Fin 3 → ℕ) (inb : ∀ a, off a + S1x16x110592.size a ≤ S2x16x110592.size a) (hr) (sq) (hP) (e : off = ![b, 0, 0]) :
    ((aP.slice (Rect.unit (s := S2x16x110592) off S1x16x110592.size inb) hr).squeeze S16x110592 sq).view.set = aP.view.setOn (rP b hP).set := by
  subst e
  exact (Memref.set_view_squeeze _ sq).trans (View.set_slice aP.view _)

theorem land_at (c : Dev nD) (x : Vec F S2x64x110592 .f32) (xb : Cont (F := F) c bX) (b : Fin 2) (j : Fin 9) (hB)
    (L : List (View.Piece (Elt F) S64x110592 .f32)) (i : S64x110592.Idx) (hi : i ∈ (rB (12288 * j.val) hB).set) :
    (bX.view.writes (Elt F) xb (⟨rB (12288 * j.val) hB, chX x b j⟩ :: L)) i = batchX x b i := by
  rw [← Rect.map_emb_univ] at hi
  obtain ⟨y, -, hy⟩ := Finset.mem_map.mp hi
  have h1 := View.read_writes_cons_emb bX.view xb (rB (12288 * j.val) hB) (chX x b j) L y
  have h3 : batchX x b ((rB (12288 * j.val) hB).emb y) = chX x b j y := congrArg x (funext fun a => match a with
    | ⟨0, _⟩ => rfl
    | ⟨1, _⟩ => Fin.ext (show 0 + 1 * (y 0).val = (y 0).val by omega)
    | ⟨2, _⟩ => Fin.ext (show 12288 * j.val + 1 * (y 1).val = 12288 * j.val + (y 1).val by omega))
  rw [hy] at h1 h3
  exact (congrFun (View.read_whole cc0_scratch0 _) i).symm.trans (h1.trans h3.symm)

theorem land_X (c : Dev nD) (x : Vec F S2x64x110592 .f32) (xb : Cont (F := F) c bX) (b : Fin 2) (j : Fin 9) (o : ℕ) (hB) (ho : o = 12288 * j.val)
    (w : Vec F S64x12288 .f32) (hw : w = chX x b j) (L : List (View.Piece (Elt F) S64x110592 .f32)) :
    (under c bX (rB o hB) (bX.view.writes (Elt F) xb (⟨rB o hB, w⟩ :: L)) : sProp 𝕄) = under c bX (rB o hB) (batchX x b) := by
  subst hw; subst ho
  have h : ∀ i : S64x110592.Idx, i ∈ bX.view.setOn (rB (12288 * j.val) hB).set → i ∈ (rB (12288 * j.val) hB).set := fun i hi => by
    obtain ⟨z, hz, hy⟩ := Finset.mem_map.mp hi
    have hy : z = i := hy
    exact hy ▸ hz
  exact pointsTo_congr fun i hi => land_at c x xb b j hB L i (h i hi)

theorem land_P (c : Dev nD) (p : Vec F S2x16x110592 .f32) (f : Cont (F := F) c bP) (b : Fin 2) (w : Vec F S16x110592 .f32) (hw : w = batchP p b) :
    View.write (Elt F) bP.view f w Finset.univ = batchP p b := by
  subst hw
  exact View.write_whole_univ cc0_scratch1 f _

/-- A load of chunk `j` of the scratch's features. -/
theorem load_chunkX (c : Dev nD) (x : Vec F S2x64x110592 .f32) (b : Fin 2) (j : Fin 9) (off : Fin 2 → ℕ)
    (inb : ∀ a, off a + S64x12288.size a ≤ S64x110592.size a) (e : off = ![0, 12288 * j.val]) :
    View.readAt (Elt F) bX.view (Rect.unit (s := S64x110592) off S64x12288.size inb).toLoadRect (batchX x b) = chX x b j := by
  subst e
  funext y
  refine congrArg x (funext fun a => ?_)
  match a with
  | ⟨0, _⟩ => rfl
  | ⟨1, _⟩ => exact Fin.ext (show 0 + 1 * (y 0).val = (y 0).val by omega)
  | ⟨2, _⟩ => exact Fin.ext (show 12288 * j.val + 1 * (y 1).val = 12288 * j.val + (y 1).val by omega)

/-! ## What the body's loads read, as functions of the chunk -/

theorem inC {n : ℕ} (j : Fin 9) (a : Fin 2) : (![0, 12288 * j.val] : Fin 2 → ℕ) a + (![n, 12288] : Fin 2 → ℕ) a ≤ (![n, 110592] : Fin 2 → ℕ) a := by
  fin_cases a
  · show 0 + n ≤ n; omega
  · show 12288 * j.val + 12288 ≤ 110592; omega

theorem inH (b : Fin 2) (j : Fin 9) (a : Fin 3) : (![b.val, 0, 12288 * j.val] : Fin 3 → ℕ) a + S1x64x12288.size a ≤ S2x64x110592.size a := by
  fin_cases a
  · show b.val + 1 ≤ 2; omega
  · show 0 + 64 ≤ 64; omega
  · show 12288 * j.val + 12288 ≤ 110592; omega

abbrev rectX (j : Fin 9) : Rect S64x110592 := Rect.unit (s := S64x110592) ![0, 12288 * j.val] S64x12288.size (inC j)
abbrev rectP (j : Fin 9) : Rect S16x110592 := Rect.unit (s := S16x110592) ![0, 12288 * j.val] S16x12288.size (inC j)
abbrev rectS (j : Fin 9) : Rect S1x110592 := Rect.unit (s := S1x110592) ![0, 12288 * j.val] S1x12288.size (inC j)

/-- The predictions of a chunk, loaded after their batch was written over `f`. -/
theorem loads_P (c : Dev nD) (p : Vec F S2x16x110592 .f32) (f : Cont (F := F) c bP) (b : Fin 2) (w : Vec F S16x110592 .f32) (hw : w = batchP p b) :
    (fun j : Fin 9 => View.readAt (Elt F) bP.view (rectP j).toLoadRect (View.write (Elt F) bP.view f w Finset.univ)) = chP p b :=
  funext fun j => by subst hw; exact load_chunkP c p f b j _ _ rfl
theorem loads_P' (c : Dev nD) (p : Vec F S2x16x110592 .f32) (b : Fin 2) :
    (fun j : Fin 9 => View.readAt (Elt F) bP.view (rectP j).toLoadRect (batchP p b)) = chP p b :=
  funext fun j => (congrArg (View.readAt (Elt F) bP.view (rectP j).toLoadRect) (View.write_whole_univ cc0_scratch1 (batchP p b) (batchP p b)).symm).trans
    (load_chunkP c p _ b j _ _ rfl)
theorem loads_X' (c : Dev nD) (x : Vec F S2x64x110592 .f32) (b : Fin 2) :
    (fun j : Fin 9 => View.readAt (Elt F) bX.view (rectX j).toLoadRect (batchX x b)) = chX x b :=
  funext fun j => load_chunkX c x b j _ _ rfl
/-- The features of a chunk, loaded after their copy. -/
theorem loads_X (c : Dev nD) (x : Cont (F := F) c aX) (b : Fin 2) :
    (fun j : Fin 9 => View.readCov bX.view [⟨rectX j, View.read (Elt F) ((aX.slice (Rect.unit (s := S2x64x110592) ![b.val, 0, 12288 * j.val]
      S1x64x12288.size (inH b j)) (fun _ => rfl)).squeeze S64x12288 squeezes_S1x64x12288_S64x12288).view x⟩] (rectX j).toLoadRect) = chX x b :=
  funext fun j => (View.readCov_cons_toLoadRect bX.view (rectX j) _ []).trans (read_chunkX c x b j _ _ _ _ rfl)

/-- The classes of a chunk, loaded after all nine were stored. -/
theorem loads_S (S : Fin 9 → IVec S1x12288 32) (j : Fin 9) :
    View.readCov (Val := Elt F) bS.view [⟨rectS 8, S 8⟩, ⟨rectS 7, S 7⟩, ⟨rectS 6, S 6⟩, ⟨rectS 5, S 5⟩, ⟨rectS 4, S 4⟩, ⟨rectS 3, S 3⟩,
      ⟨rectS 2, S 2⟩, ⟨rectS 1, S 1⟩, ⟨rectS 0, S 0⟩] (rectS j).toLoadRect = S j := by
  have hd : ∀ a b : Fin 9, a ≠ b → LoadRect.disj (rectS a) (rectS b).toLoadRect = true := by decide
  have step : ∀ (a : Fin 9) (L : List (View.Piece (Elt F) S1x110592 .i32)),
      View.readCov (Val := Elt F) bS.view (⟨rectS a, S a⟩ :: L) (rectS j).toLoadRect
        = if a = j then S j else View.readCov (Val := Elt F) bS.view L (rectS j).toLoadRect := fun a L => by
    by_cases h : a = j
    · subst h; rw [if_pos rfl]; exact View.readCov_cons_toLoadRect _ _ _ _
    · rw [if_neg h]; exact View.readCov_skip _ _ _ _ _ (hd a j h)
  simp only [step]
  fin_cases j <;> rfl

/-- What a copy out of a slot carries, once a chunk's result is stored there. -/
theorem slot_out (c : Dev nD) (P : Fin 9 → Vec F S16x12288 .f32) (X : Fin 9 → Vec F S64x12288 .f32) (j : Fin 9)
    {r : FVec F S16x64 .f32} {s : Vec F S1x12288 .i32} {y : Vec F S64x12288 .f32} (hr : r = proto P X) (hs : s = k0_pay6 (P j)) (hy : y = X j)
    (ob : Cont (F := F) c bO) (off : Fin 3 → ℕ) (inb : ∀ a, off a + S1x64x12288.size a ≤ S2x64x12288.size a) (hq) (sq)
    (L : List (View.Piece (Elt F) S2x64x12288 .f32)) :
    View.read (Elt F) ((bO.slice (Rect.unit (s := S2x64x12288) off S1x64x12288.size inb) hq).squeeze S64x12288 sq).view
      (bO.view.writes (Elt F) ob (⟨Rect.unit (s := S2x64x12288) off S1x64x12288.size inb, k0_pay79 r s y⟩ :: L)) = outC P X j := by
  subst hr; subst hs; subst hy
  exact read_slot c ob off inb hq sq _ L

end Cert.KernelIdeal.Hand
-- ==== Proof.BodyIdeal.lean ====
module

public import proofs.«01_k».proof.Proof.SpecIdeal
public import Idealize.ShloMosaic.Lib.ValueIdxCore
public import Idealize.ShloMosaic.Lib.Pipeline.Value
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The pieces and the flights of a batch, chunk by chunk -/

theorem inA (b o : ℕ) (hb : b < 2) (ho : o + 12288 ≤ 110592) (a : Fin 3) : (![b, 0, o] : Fin 3 → ℕ) a + S1x64x12288.size a ≤ S2x64x110592.size a := by
  fin_cases a
  · show b + 1 ≤ 2; omega
  · show 0 + 64 ≤ 64; omega
  · show o + 12288 ≤ 110592; omega
theorem inB (o : ℕ) (ho : o + 12288 ≤ 110592) (a : Fin 2) : (![0, o] : Fin 2 → ℕ) a + S64x12288.size a ≤ S64x110592.size a := by
  fin_cases a
  · show 0 + 64 ≤ 64; omega
  · show o + 12288 ≤ 110592; omega

/-- One resource for each of the nine chunks, given the chunk's semaphore and its first voxel. -/
abbrev nine (f : DmaSem sig → (o : ℕ) → o + 12288 ≤ 110592 → sProp 𝕄) : sProp 𝕄 :=
  iprop(f 0 0 (by decide) ∗ f 1 12288 (by decide) ∗ f 2 24576 (by decide) ∗ f 3 36864 (by decide) ∗ f 4 49152 (by decide) ∗ f 5 61440 (by decide) ∗ f 6 73728 (by decide) ∗ f 7 86016 (by decide) ∗ f 8 98304 (by decide))

/-- Batch `b` of the features, of the result, the feature scratch, in their chunks. -/
abbrev pcX (c : Dev nD) (b : ℕ) (hb : b < 2) (x : Vec F S2x64x110592 .f32) : sProp 𝕄 := nine fun _ o ho => under c aX (rA b o (inA b o hb ho)) x
abbrev pcO (c : Dev nD) (b : ℕ) (hb : b < 2) (x : Vec F S2x64x110592 .f32) : sProp 𝕄 := nine fun _ o ho => under c aO (rA b o (inA b o hb ho)) x
abbrev pcB (c : Dev nD) (x : Vec F S64x110592 .f32) : sProp 𝕄 := nine fun _ o ho => under c bX (rB o (inB o ho)) x
/-- Batch `b` of the predictions. -/
abbrev pcP (c : Dev nD) (b : ℕ) (hb : b < 2) (p : Vec F S2x16x110592 .f32)
    (h : ∀ a, (![b, 0, 0] : Fin 3 → ℕ) a + S1x16x110592.size a ≤ S2x16x110592.size a := by decide) : sProp 𝕄 := under c aP (rP b h) p
/-- The chunks' semaphores at rest, the other three at rest. -/
abbrev rest9 (c : Dev nD) : sProp 𝕄 := nine fun q _ _ => semVal ((c : Thread nD τ), SemLoc.dma q) 0
abbrev restQ (c : Dev nD) (q : DmaSem sig) : sProp 𝕄 := semVal ((c : Thread nD τ), SemLoc.dma q) 0

/-- A chunk of a batch's features on its way to the scratch. -/
abbrev flX (c : Dev nD) (x : Vec F S2x64x110592 .f32) (b : ℕ) (hb : b < 2) (q : DmaSem sig) (o : ℕ) (ho : o + 12288 ≤ 110592) : sProp 𝕄 :=
  Transfers.Flight countersEmb (c : Thread nD τ) (SemLoc.dma q) default 98304
    iprop(under c bX (rB o (inB o ho)) (batchX x ⟨b, hb⟩) ∗ under c aX (rA b o (inA b o hb ho)) x)
/-- A batch's predictions on their way to the scratch. -/
abbrev flP (c : Dev nD) (p : Vec F S2x16x110592 .f32) (b : ℕ) (hb : b < 2)
    (hP : ∀ a, (![b, 0, 0] : Fin 3 → ℕ) a + S1x16x110592.size a ≤ S2x16x110592.size a := by decide) : sProp 𝕄 :=
  Transfers.Flight countersEmb (c : Thread nD τ) (SemLoc.dma 9) default 221184
    iprop(all c bP (batchP p ⟨b, hb⟩) ∗ under c aP (rP b hP) p)

/-- The second batch of the pipeline: what the first left in flight is awaited, and the batch's result is left in its chunks. -/
theorem t1 (c : Dev nD) (x : Cont (F := F) c aX) (p : Cont (F := F) c aP) (o : Cont (F := F) c aO)
   (sb : Cont (F := F) c bS) (ob0 ob1 : Cont (F := F) c bO)
   (W : Waits sig Unit) (K : PUnit → sProp 𝕄) :
   iprop(flP c p 1 (by decide) ∗ nine (flX c x 1 (by decide)) ∗ pcO c 1 (by decide) o
     ∗ all c bS sb ∗ under c bO (rO 0) ob0 ∗ under c bO (rO 1) ob1 ∗ restQ c 10 ∗ restQ c 11 ∗ owes (c : Thread nD τ) 0 W
     ∗ (iprop(pcX c 1 (by decide) x ∗ pcP c 1 (by decide) p ∗ pcO c 1 (by decide) (OUT x p)
        ∗ pcB c (batchX x ⟨1, by decide⟩) ∗ all c bP (batchP p 1) ∗ (∃ f, all c bS f) ∗ (∃ f, under c bO (rO 0) f) ∗ (∃ f, under c bO (rO 1) f)
        ∗ rest9 c ∗ restQ c 9 ∗ restQ c 10 ∗ restQ c 11 ∗ ∃ W', owes (c : Thread nD τ) 0 W') -∗ K ⟨⟩))
   ⊢ wp frame (wpE (defs₀ (F := F)) Variants.none c none) Set.univ (body i1) K := by
  unfold body
  simp only [cc0__body_eq_skeleton]; unfold cc0__body_skel
  simp only [nine, pcX, pcO, pcB, rest9]
  iintro ⟨Hp, ⟨Hx0, Hx1, Hx2, Hx3, Hx4, Hx5, Hx6, Hx7, Hx8⟩, ⟨Ho0, Ho1, Ho2, Ho3, Ho4, Ho5, Ho6, Ho7, Ho8⟩, Hsb, Hs0, Hs1, Hq10, Hq11, HW, Hk⟩
  sl_exec
  sl_step
  have hr : t1.sl.r_44 c x p = proto (chP p 1) (chX x 1) := by rw [← loads_P' c p 1, ← loads_X' c x 1]; rfl
  have hS : ∀ j, View.readCov (Val := Elt F) bS.view (t1.sl.Hsb_9 c p) (rectS j).toLoadRect = k0_pay6 (chP p 1 j) := fun j => by
    rw [← loads_P' c p 1]
    exact loads_S (fun j => k0_pay6 (View.readAt (Elt F) bP.view (rectP j).toLoadRect (batchP p 1))) j
  have hX : ∀ j, View.readAt (Elt F) bX.view (rectX j).toLoadRect (batchX x 1) = chX x 1 j := congrFun (loads_X' c x 1)
  have h0 : t1.sl.dma40 c x p ob0 = outC (chP p 1) (chX x 1) 0 := slot_out c _ _ 0 hr (hS 0) (hX 0) ob0 _ _ _ _ _
  have h1 : t1.sl.dma44 c x p ob1 = outC (chP p 1) (chX x 1) 1 := slot_out c _ _ 1 hr (hS 1) (hX 1) ob1 _ _ _ _ _
  have h2 : t1.sl.dma48 c x p ob0 = outC (chP p 1) (chX x 1) 2 := slot_out c _ _ 2 hr (hS 2) (hX 2) ob0 _ _ _ _ _
  have h3 : t1.sl.dma52 c x p ob1 = outC (chP p 1) (chX x 1) 3 := slot_out c _ _ 3 hr (hS 3) (hX 3) ob1 _ _ _ _ _
  have h4 : t1.sl.dma56 c x p ob0 = outC (chP p 1) (chX x 1) 4 := slot_out c _ _ 4 hr (hS 4) (hX 4) ob0 _ _ _ _ _
  have h5 : t1.sl.dma60 c x p ob1 = outC (chP p 1) (chX x 1) 5 := slot_out c _ _ 5 hr (hS 5) (hX 5) ob1 _ _ _ _ _
  have h6 : t1.sl.dma64 c x p ob0 = outC (chP p 1) (chX x 1) 6 := slot_out c _ _ 6 hr (hS 6) (hX 6) ob0 _ _ _ _ _
  have h7 : t1.sl.dma68 c x p ob1 = outC (chP p 1) (chX x 1) 7 := slot_out c _ _ 7 hr (hS 7) (hX 7) ob1 _ _ _ _ _
  have h8 : t1.sl.dma72 c x p ob0 = outC (chP p 1) (chX x 1) 8 := slot_out c _ _ 8 hr (hS 8) (hX 8) ob0 _ _ _ _ _
  clear hr hS hX
  ihave Ho0 := (Entails.of_eq (out_landed c x p o 1 0 (k0_off2 i1) _ _ _ rfl _ h0 1 0 rfl rfl _)) $$ Ho0
  ihave Ho1 := (Entails.of_eq (out_landed c x p o 1 1 (k0_off3 i1) _ _ _ rfl _ h1 1 12288 rfl rfl _)) $$ Ho1
  ihave Ho2 := (Entails.of_eq (out_landed c x p o 1 2 (k0_off4 i1) _ _ _ rfl _ h2 1 24576 rfl rfl _)) $$ Ho2
  ihave Ho3 := (Entails.of_eq (out_landed c x p o 1 3 (k0_off5 i1) _ _ _ rfl _ h3 1 36864 rfl rfl _)) $$ Ho3
  ihave Ho4 := (Entails.of_eq (out_landed c x p o 1 4 (k0_off6 i1) _ _ _ rfl _ h4 1 49152 rfl rfl _)) $$ Ho4
  ihave Ho5 := (Entails.of_eq (out_landed c x p o 1 5 (k0_off7 i1) _ _ _ rfl _ h5 1 61440 rfl rfl _)) $$ Ho5
  ihave Ho6 := (Entails.of_eq (out_landed c x p o 1 6 (k0_off8 i1) _ _ _ rfl _ h6 1 73728 rfl rfl _)) $$ Ho6
  ihave Ho7 := (Entails.of_eq (out_landed c x p o 1 7 (k0_off9 i1) _ _ _ rfl _ h7 1 86016 rfl rfl _)) $$ Ho7
  ihave Ho8 := (Entails.of_eq (out_landed c x p o 1 8 (k0_off10 i1) _ _ _ rfl _ h8 1 98304 rfl rfl _)) $$ Ho8
  iapply Hk
  isplitl [Hx0_src Hx1_src Hx2_src Hx3_src Hx4_src Hx5_src Hx6_src Hx7_src Hx8_src]; · iframe
  isplitl [Hp_src]; · iexact Hp_src
  isplitl [Ho0 Ho1 Ho2 Ho3 Ho4 Ho5 Ho6 Ho7 Ho8]; · iframe
  isplitl [Hx0_dst Hx1_dst Hx2_dst Hx3_dst Hx4_dst Hx5_dst Hx6_dst Hx7_dst Hx8_dst]; · iframe
  isplitl [Hp_dst]; · iexact Hp_dst
  isplitl [Hsb]; · iexists _; iexact Hsb
  isplitl [Hs0]; · iexists _; iexact Hs0
  isplitl [Hs1]; · iexists _; iexact Hs1
  isplitl [Hx0 Hx1 Hx2 Hx3 Hx4 Hx5 Hx6 Hx7 Hx8]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    iexact Hx8
  isplitl [Hp]; · iexact Hp
  isplitl [Hq10]; · iexact Hq10
  isplitl [Hq11]; · iexact Hq11
  iexists _; iexact HW

/-- What a copy of a chunk of the features hands over when it is awaited. -/
theorem landed_X (c : Dev nD) (x : Vec F S2x64x110592 .f32) (xb : Cont (F := F) c bX) (b : Fin 2) (j : Fin 9) (o : ℕ) (ho : o = 12288 * j.val)
    (off : Fin 3 → ℕ) (inb : ∀ a, off a + S1x64x12288.size a ≤ S2x64x110592.size a) (hr) (sq) (e : off = ![b.val, 0, o])
    (hB) (hA) (w : Vec F S64x12288 .f32) (hw : w = chX x b j) (L : List (View.Piece (Elt F) S64x110592 .f32)) :
    (iprop((bX.view.loc (c : Thread nD τ) ↦[bX.view.setOn (rB o hB).set]{fullShare} bX.view.writes (Elt F) xb (⟨rB o hB, w⟩ :: L))
      ∗ (aX.view.loc (c : Thread nD τ) ↦[((aX.slice (Rect.unit (s := S2x64x110592) off S1x64x12288.size inb) hr).squeeze S64x12288 sq).view.set]{fullShare} x)) : sProp 𝕄)
    ⊢ iprop(under c bX (rB o hB) (batchX x b) ∗ under c aX (rA b.val o hA) x) :=
  Entails.of_eq (congrArg₂ (fun A B => iprop(A ∗ B)) (land_X c x xb b j o hB ho w hw L)
    (congrArg (fun I => (aX.view.loc (c : Thread nD τ) ↦[I]{fullShare} x : sProp 𝕄)) (src_X b.val o off inb hr sq hA e)))

/-- What a copy of a batch's predictions hands over when it is awaited. -/
theorem landed_P (c : Dev nD) (p : Vec F S2x16x110592 .f32) (f : Cont (F := F) c bP) (b : Fin 2)
    (off : Fin 3 → ℕ) (inb : ∀ a, off a + S1x16x110592.size a ≤ S2x16x110592.size a) (hr) (sq) (e : off = ![b.val, 0, 0])
    (w : Vec F S16x110592 .f32) (hw : w = batchP p b) (hP) :
    (iprop((bP.view.loc (c : Thread nD τ) ↦{fullShare} View.write (Elt F) bP.view f w Finset.univ)
      ∗ (aP.view.loc (c : Thread nD τ) ↦[((aP.slice (Rect.unit (s := S2x16x110592) off S1x16x110592.size inb) hr).squeeze S16x110592 sq).view.set]{fullShare} p)) : sProp 𝕄)
    ⊢ iprop(all c bP (batchP p b) ∗ under c aP (rP b.val hP) p) :=
  Entails.of_eq (congrArg₂ (fun A B => iprop(A ∗ B)) (congrArg (all c bP) (land_P c p f b w hw))
    (congrArg (fun I => (aP.view.loc (c : Thread nD τ) ↦[I]{fullShare} p : sProp 𝕄)) (src_P b.val off inb hr sq hP e)))

/-- The first batch of the pipeline: its own copies, its result, and the second batch's copies left in flight. -/
theorem t0 (c : Dev nD) (x : Cont (F := F) c aX) (p : Cont (F := F) c aP) (o : Cont (F := F) c aO) (xb : Cont (F := F) c bX)
   (pb : Cont (F := F) c bP) (sb : Cont (F := F) c bS) (ob0 ob1 : Cont (F := F) c bO)
   (W : Waits sig Unit) (K : PUnit → sProp 𝕄) :
   iprop(pcP c 0 (by decide) p ∗ pcP c 1 (by decide) p ∗ pcX c 0 (by decide) x ∗ pcX c 1 (by decide) x ∗ pcO c 0 (by decide) o
     ∗ pcB c xb ∗ all c bP pb ∗ all c bS sb ∗ under c bO (rO 0) ob0 ∗ under c bO (rO 1) ob1
     ∗ rest9 c ∗ restQ c 9 ∗ restQ c 10 ∗ restQ c 11 ∗ owes (c : Thread nD τ) 0 W
     ∗ (iprop(pcX c 0 (by decide) x ∗ pcP c 0 (by decide) p ∗ pcO c 0 (by decide) (OUT x p)
        ∗ flP c p 1 (by decide) ∗ nine (flX c x 1 (by decide)) ∗ (∃ f, all c bS f) ∗ (∃ f, under c bO (rO 0) f) ∗ (∃ f, under c bO (rO 1) f)
        ∗ restQ c 10 ∗ restQ c 11 ∗ ∃ W', owes (c : Thread nD τ) 0 W') -∗ K ⟨⟩))
   ⊢ wp frame (wpE (defs₀ (F := F)) Variants.none c none) Set.univ (body i0) K := by
  unfold body
  simp only [cc0__body_eq_skeleton]; unfold cc0__body_skel
  simp only [nine, pcX, pcO, pcB, rest9]
  iintro ⟨Hp0, Hp1, ⟨Hx0, Hx1, Hx2, Hx3, Hx4, Hx5, Hx6, Hx7, Hx8⟩, ⟨Hy0, Hy1, Hy2, Hy3, Hy4, Hy5, Hy6, Hy7, Hy8⟩, ⟨Ho0, Ho1, Ho2, Ho3, Ho4, Ho5, Ho6, Ho7, Ho8⟩,
    ⟨Hb0, Hb1, Hb2, Hb3, Hb4, Hb5, Hb6, Hb7, Hb8⟩, Hpb, Hsb, Hs0, Hs1, ⟨Hq0, Hq1, Hq2, Hq3, Hq4, Hq5, Hq6, Hq7, Hq8⟩, Hq9, Hq10, Hq11, HW, Hk⟩
  sl_exec
  sl_step
  have hw : t0.sl.dma0 c p = batchP p 0 := read_batchP c p 0 _ _ _ _ rfl
  have hP := loads_P c p pb 0 (t0.sl.dma0 c p) hw
  have hr : t0.sl.r_42 c x p pb = proto (chP p 0) (chX x 0) := by rw [← hP, ← loads_X c x 0]; rfl
  have hS : ∀ j, View.readCov (Val := Elt F) bS.view (t0.sl.Hsb_9 c p pb) (rectS j).toLoadRect = k0_pay6 (chP p 0 j) := fun j => by
    rw [← hP]
    exact loads_S (fun j => k0_pay6 (View.readAt (Elt F) bP.view (rectP j).toLoadRect (View.write (Elt F) bP.view pb (t0.sl.dma0 c p) Finset.univ))) j
  have hX := congrFun (loads_X c x 0)
  have h0 : t0.sl.dma40 c x p pb ob0 = outC (chP p 0) (chX x 0) 0 := slot_out c _ _ 0 hr (hS 0) (hX 0) ob0 _ _ _ _ _
  have h1 : t0.sl.dma44 c x p pb ob1 = outC (chP p 0) (chX x 0) 1 := slot_out c _ _ 1 hr (hS 1) (hX 1) ob1 _ _ _ _ _
  have h2 : t0.sl.dma48 c x p pb ob0 = outC (chP p 0) (chX x 0) 2 := slot_out c _ _ 2 hr (hS 2) (hX 2) ob0 _ _ _ _ _
  have h3 : t0.sl.dma52 c x p pb ob1 = outC (chP p 0) (chX x 0) 3 := slot_out c _ _ 3 hr (hS 3) (hX 3) ob1 _ _ _ _ _
  have h4 : t0.sl.dma56 c x p pb ob0 = outC (chP p 0) (chX x 0) 4 := slot_out c _ _ 4 hr (hS 4) (hX 4) ob0 _ _ _ _ _
  have h5 : t0.sl.dma60 c x p pb ob1 = outC (chP p 0) (chX x 0) 5 := slot_out c _ _ 5 hr (hS 5) (hX 5) ob1 _ _ _ _ _
  have h6 : t0.sl.dma64 c x p pb ob0 = outC (chP p 0) (chX x 0) 6 := slot_out c _ _ 6 hr (hS 6) (hX 6) ob0 _ _ _ _ _
  have h7 : t0.sl.dma68 c x p pb ob1 = outC (chP p 0) (chX x 0) 7 := slot_out c _ _ 7 hr (hS 7) (hX 7) ob1 _ _ _ _ _
  have h8 : t0.sl.dma72 c x p pb ob0 = outC (chP p 0) (chX x 0) 8 := slot_out c _ _ 8 hr (hS 8) (hX 8) ob0 _ _ _ _ _
  clear hr hS hX hP
  ihave Ho0 := (Entails.of_eq (out_landed c x p o 0 0 (k0_off2 i0) _ _ _ rfl _ h0 0 0 rfl rfl _)) $$ Ho0
  ihave Ho1 := (Entails.of_eq (out_landed c x p o 0 1 (k0_off3 i0) _ _ _ rfl _ h1 0 12288 rfl rfl _)) $$ Ho1
  ihave Ho2 := (Entails.of_eq (out_landed c x p o 0 2 (k0_off4 i0) _ _ _ rfl _ h2 0 24576 rfl rfl _)) $$ Ho2
  ihave Ho3 := (Entails.of_eq (out_landed c x p o 0 3 (k0_off5 i0) _ _ _ rfl _ h3 0 36864 rfl rfl _)) $$ Ho3
  ihave Ho4 := (Entails.of_eq (out_landed c x p o 0 4 (k0_off6 i0) _ _ _ rfl _ h4 0 49152 rfl rfl _)) $$ Ho4
  ihave Ho5 := (Entails.of_eq (out_landed c x p o 0 5 (k0_off7 i0) _ _ _ rfl _ h5 0 61440 rfl rfl _)) $$ Ho5
  ihave Ho6 := (Entails.of_eq (out_landed c x p o 0 6 (k0_off8 i0) _ _ _ rfl _ h6 0 73728 rfl rfl _)) $$ Ho6
  ihave Ho7 := (Entails.of_eq (out_landed c x p o 0 7 (k0_off9 i0) _ _ _ rfl _ h7 0 86016 rfl rfl _)) $$ Ho7
  ihave Ho8 := (Entails.of_eq (out_landed c x p o 0 8 (k0_off10 i0) _ _ _ rfl _ h8 0 98304 rfl rfl _)) $$ Ho8
  have e9 : t0.sl.dma36 c p = batchP p 1 := read_batchP c p 1 _ _ _ _ rfl
  ihave Hq9 := (Transfers.Flight_mono countersEmb c (landed_P c p _ 1 (k0_off11 i0) _ _ _ rfl _ e9 _)) $$ Hq9
  have e0 : t0.sl.dma40_1 c x = chX x 1 0 := read_chunkX c x 1 0 _ _ _ _ rfl
  ihave Hq0 := (Transfers.Flight_mono countersEmb c (landed_X c x xb 1 0 0 rfl (k0_off12 i0) _ _ _ rfl _ _ _ e0 _)) $$ Hq0
  have e1 : t0.sl.dma44_1 c x = chX x 1 1 := read_chunkX c x 1 1 _ _ _ _ rfl
  ihave Hq1 := (Transfers.Flight_mono countersEmb c (landed_X c x xb 1 1 12288 rfl (k0_off13 i0) _ _ _ rfl _ _ _ e1 _)) $$ Hq1
  have e2 : t0.sl.dma48_1 c x = chX x 1 2 := read_chunkX c x 1 2 _ _ _ _ rfl
  ihave Hq2 := (Transfers.Flight_mono countersEmb c (landed_X c x xb 1 2 24576 rfl (k0_off14 i0) _ _ _ rfl _ _ _ e2 _)) $$ Hq2
  have e3 : t0.sl.dma52_1 c x = chX x 1 3 := read_chunkX c x 1 3 _ _ _ _ rfl
  ihave Hq3 := (Transfers.Flight_mono countersEmb c (landed_X c x xb 1 3 36864 rfl (k0_off15 i0) _ _ _ rfl _ _ _ e3 _)) $$ Hq3
  have e4 : t0.sl.dma56_1 c x = chX x 1 4 := read_chunkX c x 1 4 _ _ _ _ rfl
  ihave Hq4 := (Transfers.Flight_mono countersEmb c (landed_X c x xb 1 4 49152 rfl (k0_off16 i0) _ _ _ rfl _ _ _ e4 _)) $$ Hq4
  have e5 : t0.sl.dma60_1 c x = chX x 1 5 := read_chunkX c x 1 5 _ _ _ _ rfl
  ihave Hq5 := (Transfers.Flight_mono countersEmb c (landed_X c x xb 1 5 61440 rfl (k0_off17 i0) _ _ _ rfl _ _ _ e5 _)) $$ Hq5
  have e6 : t0.sl.dma64_1 c x = chX x 1 6 := read_chunkX c x 1 6 _ _ _ _ rfl
  ihave Hq6 := (Transfers.Flight_mono countersEmb c (landed_X c x xb 1 6 73728 rfl (k0_off18 i0) _ _ _ rfl _ _ _ e6 _)) $$ Hq6
  have e7 : t0.sl.dma68_1 c x = chX x 1 7 := read_chunkX c x 1 7 _ _ _ _ rfl
  ihave Hq7 := (Transfers.Flight_mono countersEmb c (landed_X c x xb 1 7 86016 rfl (k0_off19 i0) _ _ _ rfl _ _ _ e7 _)) $$ Hq7
  have e8 : t0.sl.dma72_1 c x = chX x 1 8 := read_chunkX c x 1 8 _ _ _ _ rfl
  ihave Hq8 := (Transfers.Flight_mono countersEmb c (landed_X c x xb 1 8 98304 rfl (k0_off20 i0) _ _ _ rfl _ _ _ e8 _)) $$ Hq8
  iapply Hk
  isplitl [Hx0 Hx1 Hx2 Hx3 Hx4 Hx5 Hx6 Hx7 Hx8]; · iframe
  isplitl [Hp0]; · iexact Hp0
  isplitl [Ho0 Ho1 Ho2 Ho3 Ho4 Ho5 Ho6 Ho7 Ho8]; · iframe
  isplitl [Hq9]; · iexact Hq9
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [Hsb]; · iexists _; iexact Hsb
  isplitl [Hs0]; · iexists _; iexact Hs0
  isplitl [Hs1]; · iexists _; iexact Hs1
  isplitl [Hq10]; · iexact Hq10
  isplitl [Hq11]; · iexact Hq11
  iexists _; iexact HW

end Cert.KernelIdeal.Hand
-- ==== Proof.SplitIdeal.lean ====
module

public import proofs.«01_k».proof.Proof.BodyIdeal
public import Idealize.ShloMosaic.Lib.Pipeline.BigSepL
public import Idealize.ShloMosaic.Lib.ValueIdxCore
public import Idealize.ShloMosaic.Lib.Pipeline.Value
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Whole arrays as their pieces -/

theorem setOn_disjoint {sp : Space} {S : Shape} {e : EltTy} (M : Memref sig .tc sp S e) (I J : Finset S.Idx) (h : Disjoint I J) :
    Disjoint (M.view.setOn I) (M.view.setOn J) := (Finset.disjoint_map _).mpr h

theorem setOn_cover {B : Type} [Fintype B] {sp : Space} {S : Shape} {e : EltTy} (M : Memref sig .tc sp S e)
    (hM : M.view.setOn Finset.univ = Finset.univ) (I : B → Finset S.Idx) (h : ∀ i, ∃ b, i ∈ I b) :
    Finset.univ.biUnion (fun b => M.view.setOn (I b)) = Finset.univ := by
  refine Finset.eq_univ_iff_forall.mpr fun z => ?_
  have hz : z ∈ M.view.setOn Finset.univ := by rw [hM]; exact Finset.mem_univ z
  obtain ⟨i, -, hi⟩ := Finset.mem_map.mp hz
  obtain ⟨b, hb⟩ := h i
  exact Finset.mem_biUnion.mpr ⟨b, Finset.mem_univ _, Finset.mem_map.mpr ⟨i, hb, hi⟩⟩

theorem rect_disjoint {B : Type} {S : Shape} (R : B → Rect S) (k : S.Idx → B) (h : ∀ b i, i ∈ (R b).set ↔ k i = b) (b b' : B) (hne : b ≠ b') :
    Disjoint (R b).set (R b').set :=
  Finset.disjoint_left.mpr fun i hi hi' => hne (((h b i).mp hi).symm.trans ((h b' i).mp hi'))

/-- A whole array is its pieces, when every element lies in exactly one of them. -/
theorem all_blocks {B : Type} [Fintype B] (c : Dev nD) {sp : Space} {S : Shape} {e : EltTy} (M : Memref sig .tc sp S e)
    (hM : M.view.setOn Finset.univ = Finset.univ) (R : B → Rect S) (k : S.Idx → B) (h : ∀ b i, i ∈ (R b).set ↔ k i = b) (f : Cont (F := F) c M) :
    (all c M f : sProp 𝕄) = bigSep Finset.univ fun b => under c M (R b) f := by
  have hd : ∀ b b', b ≠ b' → Disjoint (M.view.setOn (R b).set) (M.view.setOn (R b').set) := fun b b' hne =>
    setOn_disjoint M _ _ (rect_disjoint R k h b b' hne)
  have hc := setOn_cover M hM (fun b => (R b).set) fun i => ⟨k i, (h _ i).mpr rfl⟩
  exact Ring.pointsTo_blocks (ℓ := M.view.loc (c : Thread nD τ)) (fun b => M.view.setOn (R b).set) hd hc f

/-- Pieces at contents of their own join to the whole array at something. -/
theorem all_join {B : Type} [Fintype B] [DecidableEq B] (c : Dev nD) {sp : Space} {S : Shape} {e : EltTy} (M : Memref sig .tc sp S e)
    (hM : M.view.setOn Finset.univ = Finset.univ) (R : B → Rect S) (k : S.Idx → B) (h : ∀ b i, i ∈ (R b).set ↔ k i = b) (f₀ : Cont (F := F) c M) :
    bigSep Finset.univ (fun b => iprop(∃ f, under c M (R b) f)) ⊢ (iprop(∃ f, all c M f) : sProp 𝕄) := by
  have hd : ∀ b b', b ≠ b' → Disjoint (M.view.setOn (R b).set) (M.view.setOn (R b').set) := fun b b' hne =>
    setOn_disjoint M _ _ (rect_disjoint R k h b b' hne)
  have hc := setOn_cover M hM (fun b => (R b).set) fun i => ⟨k i, (h _ i).mpr rfl⟩
  exact Ring.pointsTo_blocks_join_exists (ℓ := M.view.loc (c : Thread nD τ)) (fun b => M.view.setOn (R b).set) hd hc f₀

theorem chunk_lt (n : ℕ) (h : n < 110592) : n / 12288 < 9 := by omega

theorem mem_rB (j : Fin 9) (i : S64x110592.Idx) :
    i ∈ (rB (12288 * j.val) (inC j)).set ↔ (⟨(i 1).val / 12288, chunk_lt _ (i 1).isLt⟩ : Fin 9) = j := by
  rw [Rect.mem_set_unit, Fin.ext_iff]
  have h0 : (i 0).val < 64 := (i 0).isLt
  constructor
  · intro h
    have h1 : 12288 * j.val ≤ (i 1).val ∧ (i 1).val < 12288 * j.val + 12288 := h 1
    show (i 1).val / 12288 = j.val
    omega
  · intro h a
    have h : (i 1).val / 12288 = j.val := h
    match a with
    | ⟨0, _⟩ => exact (show 0 ≤ (i 0).val ∧ (i 0).val < 0 + 64 by omega)
    | ⟨1, _⟩ => exact (show 12288 * j.val ≤ (i 1).val ∧ (i 1).val < 12288 * j.val + 12288 by omega)

theorem mem_rA (bj : Fin 2 × Fin 9) (i : S2x64x110592.Idx) :
    i ∈ (rA bj.1.val (12288 * bj.2.val) (inH bj.1 bj.2)).set
      ↔ ((⟨(i 0).val, (i 0).isLt⟩, ⟨(i 2).val / 12288, chunk_lt _ (i 2).isLt⟩) : Fin 2 × Fin 9) = bj := by
  rw [Rect.mem_set_unit, Prod.ext_iff, Fin.ext_iff, Fin.ext_iff]
  have h0 : (i 1).val < 64 := (i 1).isLt
  constructor
  · intro h
    have h0 : bj.1.val ≤ (i 0).val ∧ (i 0).val < bj.1.val + 1 := h 0
    have h1 : 12288 * bj.2.val ≤ (i 2).val ∧ (i 2).val < 12288 * bj.2.val + 12288 := h 2
    show (i 0).val = bj.1.val ∧ (i 2).val / 12288 = bj.2.val
    omega
  · intro h a
    have h : (i 0).val = bj.1.val ∧ (i 2).val / 12288 = bj.2.val := h
    match a with
    | ⟨0, _⟩ => exact (show bj.1.val ≤ (i 0).val ∧ (i 0).val < bj.1.val + 1 by omega)
    | ⟨1, _⟩ => exact (show 0 ≤ (i 1).val ∧ (i 1).val < 0 + 64 by omega)
    | ⟨2, _⟩ => exact (show 12288 * bj.2.val ≤ (i 2).val ∧ (i 2).val < 12288 * bj.2.val + 12288 by omega)

theorem inPB (b : Fin 2) (a : Fin 3) : (![b.val, 0, 0] : Fin 3 → ℕ) a + S1x16x110592.size a ≤ S2x16x110592.size a := by
  revert a b; decide
theorem inOB (b : Fin 2) (a : Fin 3) : (![b.val, 0, 0] : Fin 3 → ℕ) a + S1x64x12288.size a ≤ S2x64x12288.size a := by
  revert a b; decide

theorem mem_rP (b : Fin 2) (i : S2x16x110592.Idx) : i ∈ (rP b.val (inPB b)).set ↔ (⟨(i 0).val, (i 0).isLt⟩ : Fin 2) = b := by
  rw [Rect.mem_set_unit, Fin.ext_iff]
  have h1 : (i 1).val < 16 := (i 1).isLt
  have h2 : (i 2).val < 110592 := (i 2).isLt
  constructor
  · intro h
    have h0 : b.val ≤ (i 0).val ∧ (i 0).val < b.val + 1 := h 0
    show (i 0).val = b.val
    omega
  · intro h a
    have h : (i 0).val = b.val := h
    match a with
    | ⟨0, _⟩ => exact (show b.val ≤ (i 0).val ∧ (i 0).val < b.val + 1 by omega)
    | ⟨1, _⟩ => exact (show 0 ≤ (i 1).val ∧ (i 1).val < 0 + 16 by omega)
    | ⟨2, _⟩ => exact (show 0 ≤ (i 2).val ∧ (i 2).val < 0 + 110592 by omega)

theorem mem_rO (b : Fin 2) (i : S2x64x12288.Idx) : i ∈ (rO b.val (inOB b)).set ↔ (⟨(i 0).val, (i 0).isLt⟩ : Fin 2) = b := by
  rw [Rect.mem_set_unit, Fin.ext_iff]
  have h1 : (i 1).val < 64 := (i 1).isLt
  have h2 : (i 2).val < 12288 := (i 2).isLt
  constructor
  · intro h
    have h0 : b.val ≤ (i 0).val ∧ (i 0).val < b.val + 1 := h 0
    show (i 0).val = b.val
    omega
  · intro h a
    have h : (i 0).val = b.val := h
    match a with
    | ⟨0, _⟩ => exact (show b.val ≤ (i 0).val ∧ (i 0).val < b.val + 1 by omega)
    | ⟨1, _⟩ => exact (show 0 ≤ (i 1).val ∧ (i 1).val < 0 + 64 by omega)
    | ⟨2, _⟩ => exact (show 0 ≤ (i 2).val ∧ (i 2).val < 0 + 12288 by omega)

/-- The feature scratch is its nine chunks. -/
theorem all_bX (c : Dev nD) (f : Cont (F := F) c bX) : (all c bX f : sProp 𝕄) = pcB c f :=
  (all_blocks c bX (View.setOn_whole_univ _) (fun j : Fin 9 => rB (12288 * j.val) (inC j)) _ mem_rB f).trans
    (BI.bigSep_univ_eq_bigSepL [0, 1, 2, 3, 4, 5, 6, 7, 8] (by decide) (by decide) _)

/-- The predictions are their two batches. -/
theorem all_aP (c : Dev nD) (f : Cont (F := F) c aP) : (all c aP f : sProp 𝕄) = iprop(pcP c 0 (by decide) f ∗ pcP c 1 (by decide) f) :=
  (all_blocks c aP (View.setOn_whole_univ _) (fun b : Fin 2 => rP b.val (inPB b)) _ mem_rP f).trans
    (BI.bigSep_univ_eq_bigSepL [0, 1] (by decide) (by decide) _)

/-- The two output slots. -/
theorem all_bO (c : Dev nD) (f : Cont (F := F) c bO) : (all c bO f : sProp 𝕄) = iprop(under c bO (rO 0) f ∗ under c bO (rO 1) f) :=
  (all_blocks c bO (View.setOn_whole_univ _) (fun b : Fin 2 => rO b.val (inOB b)) _ mem_rO f).trans
    (BI.bigSep_univ_eq_bigSepL [0, 1] (by decide) (by decide) _)
theorem join_bO (c : Dev nD) : iprop((∃ f, under c bO (rO 0) f) ∗ ∃ f, under c bO (rO 1) f) ⊢ (iprop(∃ f, all c bO f) : sProp 𝕄) := by
  have e : (bigSep Finset.univ (fun b : Fin 2 => iprop(∃ f, under c bO (rO b.val (inOB b)) f)) : sProp 𝕄)
      = iprop((∃ f, under c bO (rO 0) f) ∗ ∃ f, under c bO (rO 1) f) := BI.bigSep_univ_eq_bigSepL [0, 1] (by decide) (by decide) _
  iintro ⟨⟨%f, H0⟩, H1⟩
  iapply (all_join c bO (View.setOn_whole_univ _) (fun b : Fin 2 => rO b.val (inOB b)) _ mem_rO f)
  iapply (Entails.of_eq e.symm)
  isplitl [H0]
  · iexists f; iexact H0
  iexact H1

/-- Eighteen pieces, nine and nine. -/
theorem two_nines (Φ : Fin 2 × Fin 9 → sProp 𝕄) :
    (bigSep Finset.univ Φ : sProp 𝕄)
      = iprop((Φ (0, 0) ∗ Φ (0, 1) ∗ Φ (0, 2) ∗ Φ (0, 3) ∗ Φ (0, 4) ∗ Φ (0, 5) ∗ Φ (0, 6) ∗ Φ (0, 7) ∗ Φ (0, 8))
        ∗ (Φ (1, 0) ∗ Φ (1, 1) ∗ Φ (1, 2) ∗ Φ (1, 3) ∗ Φ (1, 4) ∗ Φ (1, 5) ∗ Φ (1, 6) ∗ Φ (1, 7) ∗ Φ (1, 8))) := by
  refine (BI.bigSep_univ_eq_bigSepL ([(0, 0), (0, 1), (0, 2), (0, 3), (0, 4), (0, 5), (0, 6), (0, 7), (0, 8)]
    ++ [(1, 0), (1, 1), (1, 2), (1, 3), (1, 4), (1, 5), (1, 6), (1, 7), (1, 8)]) (by decide) (by decide) Φ).trans ?_
  rw [BI.bigSepL_append]
  rfl

/-- The features, and the result, are their eighteen chunks. -/
theorem all_aX (c : Dev nD) (f : Cont (F := F) c aX) : (all c aX f : sProp 𝕄) = iprop(pcX c 0 (by decide) f ∗ pcX c 1 (by decide) f) :=
  (all_blocks c aX (View.setOn_whole_univ _) (fun bj : Fin 2 × Fin 9 => rA bj.1.val (12288 * bj.2.val) (inH bj.1 bj.2)) _ mem_rA f).trans (two_nines _)
theorem all_aO (c : Dev nD) (f : Cont (F := F) c aO) : (all c aO f : sProp 𝕄) = iprop(pcO c 0 (by decide) f ∗ pcO c 1 (by decide) f) :=
  (all_blocks c aO (View.setOn_whole_univ _) (fun bj : Fin 2 × Fin 9 => rA bj.1.val (12288 * bj.2.val) (inH bj.1 bj.2)) _ mem_rA f).trans (two_nines _)

end Cert.KernelIdeal.Hand
-- ==== Proof.RunIdeal.lean ====
module

public import proofs.«01_k».proof.Proof.SplitIdeal
public import Idealize.ShloMosaic.Lib.Pipeline.Regions

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers around the region -/

/-- The pipeline's algebra is the left component. -/
abbrev EP : Emb (UR sig nD τ) (MT nD τ sig Unit (Elt F) ℕ (Pipeline.UD sig nD τ) ℕ) := embL

/-- Core `c`'s buffers at launch, -/
abbrev B₀ (c : Dev nD) : Valuation τ sig (Elt F) := fun b => (s₀ m ρ).mem ((c : Dev nD), b)
/-- at the region's entry, -/
def B₁ (c : Dev nD) : Valuation τ sig (Elt F) := StableHlo.after hostOps0 (B₀ m ρ c)
/-- the two operands of the kernel there, -/
def xin (c : Dev nD) : Vec F S2x64x110592 .f32 := B₁ m ρ c (Proc.devRef .tc main_call0_v0)
def pin (c : Dev nD) : Vec F S2x16x110592 .f32 := B₁ m ρ c (Proc.devRef .tc main_call0_v1)
/-- at the region's exit, -/
def B₂ (c : Dev nD) : Valuation τ sig (Elt F) := Function.update (B₁ m ρ c) (Proc.devRef .tc main_call0_v2) (OUT (xin m ρ c) (pin m ρ c))
/-- and at the end. -/
def B₃ (c : Dev nD) : Valuation τ sig (Elt F) := StableHlo.after hostOps1 (B₂ m ρ c)

/-- The device buffers outside the kernel. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The six of them, listed. -/
theorem held_eq (c : Dev nD) (W : Valuation τ sig (Elt F)) :
    (StableHlo.held (c : Thread nD τ) ucRefs W : sProp 𝕄)
      = iprop((((c : Thread nD τ).loc main_arg0) ↦{fullShare} W (Proc.devRef .tc main_arg0)) ∗ (((c : Thread nD τ).loc main_arg1) ↦{fullShare} W (Proc.devRef .tc main_arg1))
        ∗ (((c : Thread nD τ).loc main_call0_v0) ↦{fullShare} W (Proc.devRef .tc main_call0_v0)) ∗ (((c : Thread nD τ).loc main_call0_v1) ↦{fullShare} W (Proc.devRef .tc main_call0_v1))
        ∗ (((c : Thread nD τ).loc main_call0_v2) ↦{fullShare} W (Proc.devRef .tc main_call0_v2)) ∗ (((c : Thread nD τ).loc main_v0) ↦{fullShare} W (Proc.devRef .tc main_v0))) := by
  rw [← unscopedBufs_held]
  unfold unscopedBufs
  exact BI.bigSep_eq_bigSepL_of_eq [main_arg0, main_arg1, main_call0_v0, main_call0_v1, main_call0_v2, main_v0] (by decide) (by decide) _

/-! ## The invariant of the pipeline -/

/-- The kernel's semaphores at rest. -/
abbrev restAll (c : Dev nD) : sProp 𝕄 := iprop(rest9 c ∗ restQ c 9 ∗ restQ c 10 ∗ restQ c 11)
/-- The scratch at anything. -/
abbrev scratch (c : Dev nD) : sProp 𝕄 := iprop((∃ f, all c bX f) ∗ (∃ f, all c bP f) ∗ (∃ f, all c bS f) ∗ ∃ f, all c bO f)

/-- Before the first batch; -/
def Φ₀ (c : Dev nD) (x : Vec F S2x64x110592 .f32) (p : Vec F S2x16x110592 .f32) (o : Vec F S2x64x110592 .f32) : sProp 𝕄 :=
  iprop(all c aX x ∗ all c aP p ∗ all c aO o ∗ restAll c ∗ scratch c)
/-- between the two; -/
def Φ₁ (c : Dev nD) (x : Vec F S2x64x110592 .f32) (p : Vec F S2x16x110592 .f32) (o : Vec F S2x64x110592 .f32) : sProp 𝕄 :=
  iprop(pcX c 0 (by decide) x ∗ pcP c 0 (by decide) p ∗ pcO c 0 (by decide) (OUT x p) ∗ pcO c 1 (by decide) o
    ∗ flP c p 1 (by decide) ∗ nine (flX c x 1 (by decide)) ∗ (∃ f, all c bS f) ∗ (∃ f, under c bO (rO 0) f) ∗ (∃ f, under c bO (rO 1) f)
    ∗ restQ c 10 ∗ restQ c 11)
/-- after the second. -/
def Φ₂ (c : Dev nD) (x : Vec F S2x64x110592 .f32) (p : Vec F S2x16x110592 .f32) : sProp 𝕄 :=
  iprop(all c aX x ∗ all c aP p ∗ all c aO (OUT x p) ∗ restAll c ∗ scratch c)

/-- The proof data: no window, the three invariants. -/
def dats (_ : Fin 1) (c : Dev nD) : Dat τ (Elt F) Unit ℕ (Pipeline.UD sig nD τ) ℕ cfg0 c where
  A w := w.elim0
  after w := w.elim0
  Φ t := match t.val with
    | 0 => Φ₀ c (xin m ρ c) (pin m ρ c) (B₁ m ρ c (Proc.devRef .tc main_call0_v2))
    | 1 => Φ₁ c (xin m ρ c) (pin m ρ c) (B₁ m ρ c (Proc.devRef .tc main_call0_v2))
    | _ => Φ₂ c (xin m ρ c) (pin m ρ c)
  q _ := fullShare
  owed _ := 0

abbrev 𝒱₀ : Variants := Variants.none

/-- The first batch, between invariants. -/
theorem step0 (c : Dev nD) (x : Vec F S2x64x110592 .f32) (p : Vec F S2x16x110592 .f32) (o : Vec F S2x64x110592 .f32) (W : Waits sig Unit)
    (K : PUnit → sProp 𝕄) :
    iprop(Φ₀ c x p o ∗ owes (c : Thread nD τ) 0 W ∗ (iprop(Φ₁ c x p o ∗ ∃ W', owes (c : Thread nD τ) 0 W') -∗ K ⟨⟩))
    ⊢ wp frame (wpE (defs₀ (F := F)) Variants.none c none) Set.univ (body i0) K := by
  unfold Φ₀ Φ₁
  rw [all_aX, all_aP, all_aO]
  iintro ⟨⟨⟨X0, X1⟩, ⟨P0, P1⟩, ⟨O0, O1⟩, ⟨Hq, Hq9, Hq10, Hq11⟩, ⟨%fx, Hbx⟩, ⟨%fp, Hbp⟩, ⟨%fs, Hbs⟩, ⟨%fo, Hbo⟩⟩, HW, Hk⟩
  ihave Hbx := (Entails.of_eq (all_bX c fx)) $$ Hbx
  ihave Hbo := (Entails.of_eq (all_bO c fo)) $$ Hbo
  icases Hbo with ⟨Hs0, Hs1⟩
  iapply (t0 c x p o fx fp fs fo fo W K)
  isplitl [P0]; · iexact P0
  isplitl [P1]; · iexact P1
  isplitl [X0]; · iexact X0
  isplitl [X1]; · iexact X1
  isplitl [O0]; · iexact O0
  isplitl [Hbx]; · iexact Hbx
  isplitl [Hbp]; · iexact Hbp
  isplitl [Hbs]; · iexact Hbs
  isplitl [Hs0]; · iexact Hs0
  isplitl [Hs1]; · iexact Hs1
  isplitl [Hq]; · iexact Hq
  isplitl [Hq9]; · iexact Hq9
  isplitl [Hq10]; · iexact Hq10
  isplitl [Hq11]; · iexact Hq11
  isplitl [HW]; · iexact HW
  iintro ⟨X0, P0, O0, Hfp, Hfx, Hbs, Hs0, Hs1, Hq10, Hq11, HW⟩
  iapply Hk
  isplitr [HW]
  · isplitl [X0]; · iexact X0
    isplitl [P0]; · iexact P0
    isplitl [O0]; · iexact O0
    isplitl [O1]; · iexact O1
    isplitl [Hfp]; · iexact Hfp
    isplitl [Hfx]; · iexact Hfx
    isplitl [Hbs]; · iexact Hbs
    isplitl [Hs0]; · iexact Hs0
    isplitl [Hs1]; · iexact Hs1
    isplitl [Hq10]; · iexact Hq10
    iexact Hq11
  iexact HW

/-- The second batch, between invariants. -/
theorem step1 (c : Dev nD) (x : Vec F S2x64x110592 .f32) (p : Vec F S2x16x110592 .f32) (o : Vec F S2x64x110592 .f32) (W : Waits sig Unit)
    (K : PUnit → sProp 𝕄) :
    iprop(Φ₁ c x p o ∗ owes (c : Thread nD τ) 0 W ∗ (iprop(Φ₂ c x p ∗ ∃ W', owes (c : Thread nD τ) 0 W') -∗ K ⟨⟩))
    ⊢ wp frame (wpE (defs₀ (F := F)) Variants.none c none) Set.univ (body i1) K := by
  unfold Φ₁ Φ₂
  rw [all_aX, all_aP, all_aO]
  iintro ⟨⟨X0, P0, O0, O1, Hfp, Hfx, ⟨%fs, Hbs⟩, ⟨%f0, Hs0⟩, ⟨%f1, Hs1⟩, Hq10, Hq11⟩, HW, Hk⟩
  iapply (t1 c x p o fs f0 f1 W K)
  isplitl [Hfp]; · iexact Hfp
  isplitl [Hfx]; · iexact Hfx
  isplitl [O1]; · iexact O1
  isplitl [Hbs]; · iexact Hbs
  isplitl [Hs0]; · iexact Hs0
  isplitl [Hs1]; · iexact Hs1
  isplitl [Hq10]; · iexact Hq10
  isplitl [Hq11]; · iexact Hq11
  isplitl [HW]; · iexact HW
  iintro ⟨X1, P1, O1, Hbx, Hbp, Hbs, Hs0, Hs1, Hq, Hq9, Hq10, Hq11, HW⟩
  ihave Hbx := (Entails.of_eq (all_bX c _).symm) $$ Hbx
  ihave Hbo := (join_bO c) $$ [Hs0 Hs1]
  · isplitl [Hs0] <;> iassumption
  iapply Hk
  isplitr [HW]
  · isplitl [X0 X1]; · isplitl [X0] <;> iassumption
    isplitl [P0 P1]; · isplitl [P0] <;> iassumption
    isplitl [O0 O1]; · isplitl [O0] <;> iassumption
    isplitl [Hq Hq9 Hq10 Hq11]
    · isplitl [Hq]; · iexact Hq
      isplitl [Hq9]; · iexact Hq9
      isplitl [Hq10]; · iexact Hq10
      iexact Hq11
    isplitl [Hbx]; · iexists _; iexact Hbx
    isplitl [Hbp]; · iexists _; iexact Hbp
    isplitl [Hbs]; · iexact Hbs
    iexact Hbo
  iexact HW

theorem coords0 : grid0.coords t0_0 = i0 := by decide
theorem coords1 : grid0.coords t0_1 = i1 := by decide

/-- The library's body obligation. -/
theorem body_obligation (c : Dev nD) : BodyObligation (dats m ρ 0 c) (defs₀ (F := F)) 𝒱₀ () Set.univ := fun t => by
  have : IsEmpty (Fin cfg0.W) := inferInstanceAs (IsEmpty (Fin 0))
  rw [Finset.univ_eq_empty, bigSep_empty, bigSep_empty]
  unfold Dat.owesAt Pipeline.owesWithin
  show _ ⊢ wp frame _ _ (bodyAt0 t) _
  rcases fin_N0 t with rfl | rfl
  · rw [show bodyAt0 (F := F) t0_0 = body i0 from congrArg body coords0]
    rw [show (dats m ρ 0 c).Φ t0_0.castSucc = Φ₀ c (xin m ρ c) (pin m ρ c) (B₁ m ρ c (Proc.devRef .tc main_call0_v2)) from rfl,
      show (dats m ρ 0 c).Φ t0_0.succ = Φ₁ c (xin m ρ c) (pin m ρ c) (B₁ m ρ c (Proc.devRef .tc main_call0_v2)) from rfl,
      show (dats m ρ 0 c).owed t0_0.castSucc = 0 from rfl, show (dats m ρ 0 c).owed t0_0.succ = 0 from rfl]
    iintro ⟨HΦ, ⟨%W, %hW, HW⟩, -⟩
    iapply (step0 c (xin m ρ c) (pin m ρ c) (B₁ m ρ c (Proc.devRef .tc main_call0_v2)) W)
    isplitl [HΦ]; · iexact HΦ
    isplitl [HW]; · iexact HW
    iintro ⟨HΦ, ⟨%W', HW⟩⟩
    isplitl [HΦ]; · iexact HΦ
    isplitl [HW]
    · iexists W'; isplitr; · ipureintro; exact fun _ _ => Or.inl trivial
      iexact HW
    iempintro
  · rw [show bodyAt0 (F := F) t0_1 = body i1 from congrArg body coords1]
    rw [show (dats m ρ 0 c).Φ t0_1.castSucc = Φ₁ c (xin m ρ c) (pin m ρ c) (B₁ m ρ c (Proc.devRef .tc main_call0_v2)) from rfl,
      show (dats m ρ 0 c).Φ t0_1.succ = Φ₂ c (xin m ρ c) (pin m ρ c) from rfl,
      show (dats m ρ 0 c).owed t0_1.castSucc = 0 from rfl, show (dats m ρ 0 c).owed t0_1.succ = 0 from rfl]
    iintro ⟨HΦ, ⟨%W, %hW, HW⟩, -⟩
    iapply (step1 c (xin m ρ c) (pin m ρ c) (B₁ m ρ c (Proc.devRef .tc main_call0_v2)) W)
    isplitl [HΦ]; · iexact HΦ
    isplitl [HW]; · iexact HW
    iintro ⟨HΦ, ⟨%W', HW⟩⟩
    isplitl [HΦ]; · iexact HΦ
    isplitl [HW]
    · iexists W'; isplitr; · ipureintro; exact fun _ _ => Or.inl trivial
      iexact HW
    iempintro

/-! ## The launch -/

/-- The kernel's own semaphores. -/
def osem : Fin 12 → SemLoc sig := fun k => SemLoc.dma k
theorem ownSemFacts : Pipeline.OwnSemFacts (cfg0.spec) osem := by decide

def u₀ : Pipeline.UD sig nD τ := (initOf (Pipeline.cells cfgs cellOf_inj) (Pipeline.launchToks cfgs cellOf_inj), 1)

theorem ownSems0_eq (c : Dev nD) :
    (Pipeline.ownSems0 (Ix := Unit) (Name := ℕ) (U := Pipeline.UD sig nD τ) (Lvl := ℕ) (Val := Elt F) (τ := τ) osem c : sProp 𝕄)
      = iprop(restQ c 0 ∗ restQ c 1 ∗ restQ c 2 ∗ restQ c 3 ∗ restQ c 4 ∗ restQ c 5 ∗ restQ c 6 ∗ restQ c 7 ∗ restQ c 8 ∗ restQ c 9 ∗ restQ c 10 ∗ restQ c 11) :=
  Pipeline.ownSems0_eq_of_list c osem [0, 1, 2, 3, 4, 5, 6, 7, 8, 9, 10, 11] (by decide) (by decide)

theorem own_rest (c : Dev nD) : (Pipeline.ownSems0 (Ix := Unit) (Name := ℕ) (U := Pipeline.UD sig nD τ) (Lvl := ℕ) (Val := Elt F) (τ := τ) osem c : sProp 𝕄)
    ⊢ restAll c := by
  rw [ownSems0_eq]
  iintro ⟨H0, H1, H2, H3, H4, H5, H6, H7, H8, H9, H10, H11⟩
  isplitl [H0 H1 H2 H3 H4 H5 H6 H7 H8]
  · simp only [rest9, nine]; iframe
  isplitl [H9]; · iexact H9
  isplitl [H10] <;> iassumption
theorem rest_own (c : Dev nD) : restAll c ⊢
    (Pipeline.ownSems0 (Ix := Unit) (Name := ℕ) (U := Pipeline.UD sig nD τ) (Lvl := ℕ) (Val := Elt F) (τ := τ) osem c : sProp 𝕄) := by
  rw [ownSems0_eq]
  iintro ⟨⟨H0, H1, H2, H3, H4, H5, H6, H7, H8⟩, H9, H10, H11⟩
  iframe

abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers. -/
abbrev R (c : Dev nD) : sProp 𝕄 := iprop(∃ W, owes (c : Thread nD τ) (0 : CellTallies nD τ sig Unit) W)

/-- The host operations before the region, -/
def seg0 : Pipeline.HostSeg (Name := ℕ) (U := Pipeline.UD sig nD τ) (pcfgs (F := F)) defs₀ 𝒱₀ L lv :=
  Pipeline.HostSeg.ofOps _ _ _ _ _ ucRefs hostOps0 (fun op h => sub_ucRefs op ((List.forall_iff_forall_mem.mp hostOps0_sub) op h))
    (fun op h => (List.forall_iff_forall_mem.mp hostOps0_fresh) op h) (B₀ m ρ) R
/-- and after it. -/
def seg1 : Pipeline.HostSeg (Name := ℕ) (U := Pipeline.UD sig nD τ) (pcfgs (F := F)) defs₀ 𝒱₀ L lv :=
  Pipeline.HostSeg.ofOps _ _ _ _ _ ucRefs hostOps1 (fun op h => sub_ucRefs op ((List.forall_iff_forall_mem.mp hostOps1_sub) op h))
    (fun op h => (List.forall_iff_forall_mem.mp hostOps1_fresh) op h) (B₂ m ρ) R

theorem B₂_of_ne (c : Dev nD) (b : Ref sig .tc) (h : b ≠ main_call0_v2) : B₂ m ρ c (Proc.devRef .tc b) = B₁ m ρ c (Proc.devRef .tc b) :=
  Function.update_of_ne (StableHlo.devRef_ne_of_ne h) _ _
theorem B₂_out (c : Dev nD) : B₂ m ρ c (Proc.devRef .tc main_call0_v2) = OUT (xin m ρ c) (pin m ρ c) := Function.update_self _ _ _

set_option backward.isDefEq.respectTransparency.types false in
/-- The region. -/
def reg0 : Pipeline.RegionSeg (pcfgs (F := F)) adm (dats m ρ) () defs₀ 𝒱₀ L lv 0 where
  win := launch0.win.to₀
  block_pos := launch0.block_pos
  stage_whole := launch0.stage_whole
  K := Fin 12
  osem := osem
  ho := ownSemFacts
  hbody c := (body_obligation m ρ c).loose
  hwaits := Pipeline.hwaits_of_owed_zero _ _ _ _ L lv 0 fun _ _ => rfl
  pre c := iprop(StableHlo.held (c : Thread nD τ) ucRefs (B₁ m ρ c) ∗ R c)
  post c := iprop(StableHlo.held (c : Thread nD τ) ucRefs (B₂ m ρ c) ∗ R c)
  X c := iprop(all c aX (xin m ρ c) ∗ all c aP (pin m ρ c) ∗ all c aO (B₁ m ρ c (Proc.devRef .tc main_call0_v2)) ∗ restAll c)
  Y c := iprop(all c aX (xin m ρ c) ∗ all c aP (pin m ρ c) ∗ all c aO (OUT (xin m ρ c) (pin m ρ c)))
  Z c := iprop((((c : Thread nD τ).loc main_arg0) ↦{fullShare} B₁ m ρ c (Proc.devRef .tc main_arg0))
    ∗ (((c : Thread nD τ).loc main_arg1) ↦{fullShare} B₁ m ρ c (Proc.devRef .tc main_arg1))
    ∗ (((c : Thread nD τ).loc main_v0) ↦{fullShare} B₁ m ρ c (Proc.devRef .tc main_v0)))
  hentry c := by
    have : IsEmpty (Fin cfg0.W) := inferInstanceAs (IsEmpty (Fin 0))
    rw [held_eq]
    iintro ⟨⟨⟨A0, A1, V0, V1, V2, V3⟩, HO⟩, Hos, -⟩
    ihave Hos := (own_rest c) $$ Hos
    imodintro
    isplitr
    · unfold Dat.arrays; rw [show (Finset.univ : Finset (Fin 0)) = ∅ from rfl, BI.bigSep_empty]; iempintro
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [V0 V1 V2 Hos]
    · isplitl [V0]; · iexact V0
      isplitl [V1]; · iexact V1
      isplitl [V2]; · iexact V2
      iexact Hos
    isplitl [A0]; · iexact A0
    isplitl [A1] <;> iassumption
  hin c := by
    rw [show (dats m ρ 0 c).Φ 0 = Φ₀ c (xin m ρ c) (pin m ρ c) (B₁ m ρ c (Proc.devRef .tc main_call0_v2)) from rfl]; unfold Φ₀
    rw [scopedRest0_eq]
    iintro ⟨⟨HX, HP, HO, Hq⟩, -, Hr⟩
    isplitl [HX]; · iexact HX
    isplitl [HP]; · iexact HP
    isplitl [HO]; · iexact HO
    isplitl [Hq]; · iexact Hq
    iexact Hr
  hout c := by
    rw [show (dats m ρ 0 c).Φ (Fin.last cfg0.N) = Φ₂ c (xin m ρ c) (pin m ρ c) from rfl]; unfold Φ₂
    rw [scopedRest0_eq]
    iintro ⟨HX, HP, HO, Hq, Hr⟩
    ihave Hq := (rest_own c) $$ Hq
    isplitl [HX HP HO]
    · isplitl [HX]; · iexact HX
      isplitl [HP] <;> iassumption
    isplitl [Hq]; · iexact Hq
    iexact Hr
  hexit c := by
    rw [held_eq, B₂_out, B₂_of_ne m ρ c main_arg0 (by decide), B₂_of_ne m ρ c main_arg1 (by decide), B₂_of_ne m ρ c main_v0 (by decide),
      B₂_of_ne m ρ c main_call0_v0 (by decide), B₂_of_ne m ρ c main_call0_v1 (by decide)]
    iintro ⟨-, HO, ⟨HX, HP, HA⟩, ⟨A0, A1, V3⟩⟩
    imodintro
    isplitr [HO]
    · isplitl [A0]; · iexact A0
      isplitl [A1]; · iexact A1
      isplitl [HX]; · iexact HX
      isplitl [HP]; · iexact HP
      isplitl [HA]; · iexact HA
      iexact V3
    · unfold Pipeline.Dat.owesAt Pipeline.owesWithin
      icases HO with ⟨%W, -, HO⟩; iexists W; iexact HO

/-- The program's segments. -/
abbrev segs : List (Pipeline.Seg (pcfgs (F := F)) adm (dats m ρ) () defs₀ 𝒱₀ L lv) := [.host (seg0 m ρ), .region (reg0 m ρ), .host (seg1 m ρ)]

set_option backward.isDefEq.respectTransparency.types false in
/-- Every run ends with every counter at zero, the result and the arguments at what the host operations leave. -/
theorem run_main : θ_run defs (onTc (τ := τ) (main (F := F))) (s₀ m ρ) (fun r => (∀ c : Dev nD,
      r.2.mem ((c : Thread nD τ).loc main_v0) = B₃ m ρ c (Proc.devRef .tc main_v0)
      ∧ r.2.mem ((c : Thread nD τ).loc main_arg0) = B₃ m ρ c (Proc.devRef .tc main_arg0)
      ∧ r.2.mem ((c : Thread nD τ).loc main_arg1) = B₃ m ρ c (Proc.devRef .tc main_arg1)) ∧ r.2.sem = fun _ => 0) :=
  Pipeline.θ_run_regions_kit_sems (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (B₀ m ρ c) ∗ R c))
    (Tₙ := fun c => StableHlo.held (c : Thread nD τ) ucRefs (B₃ m ρ c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (B₀ m ρ c) from unscopedBufs_held c (B₀ m ρ c)]
      iintro ⟨⟨Hh, -, HO, -, -, -⟩, -⟩
      imodintro
      isplitl [Hh]; · iexact Hh
      iexists ∅; iexact HO)
    (QY := fun c s => s.mem ((c : Thread nD τ).loc main_v0) = B₃ m ρ c (Proc.devRef .tc main_v0)
      ∧ s.mem ((c : Thread nD τ).loc main_arg0) = B₃ m ρ c (Proc.devRef .tc main_arg0)
      ∧ s.mem ((c : Thread nD τ).loc main_arg1) = B₃ m ρ c (Proc.devRef .tc main_arg1))
    (hfin := fun c s' => by
      rw [held_eq]
      iintro ⟨⟨A0, A1, -, -, -, V3⟩, HSI⟩
      icombine HSI A0 gives %h0
      icombine HSI A1 gives %h1
      icombine HSI V3 gives %h2
      imodintro
      isplitr; · ipureintro; exact ⟨Buf.eq_of_forall_mem_univ h2, Buf.eq_of_forall_mem_univ h0, Buf.eq_of_forall_mem_univ h1⟩
      iexact HSI)
    (hQ := fun _ h hz => ⟨h, funext fun g => hz g (.inr (by revert g; decide))⟩)

end Cert.KernelIdeal.Hand
-- ==== Proof.ValueIdeal.lean ====
module

public import proofs.«01_k».proof.Proof.RunIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-! ## What the program leaves, as a function of its arguments -/

/-- The kernel's result on the two arguments. -/
def result (x : Vec F S2x64x48x48x48 .f32) (p : Vec F S2x16x48x48x48 .f32) : Vec F S2x64x48x48x48 .f32 :=
  shapeCast S2x64x48x48x48 (OUT (shapeCast S2x64x110592 x shapeCasts_S2x64x48x48x48_S2x64x110592) (shapeCast S2x16x110592 p shapeCasts_S2x16x48x48x48_S2x16x110592))
    shapeCasts_S2x64x110592_S2x64x48x48x48

variable (m : (ℓ : Loc nD τ sig) → Buf (Elt F) ℓ) (ρ : Dev nD → PrngReg)

theorem xin_eq (c : Dev nD) : xin m ρ c = shapeCast S2x64x110592 (m ((c : Thread nD τ).loc main_arg0)) shapeCasts_S2x64x48x48x48_S2x64x110592 := by
  unfold xin B₁
  rw [StableHlo.after_cons, StableHlo.after_cons, StableHlo.after_nil,
    StableHlo.reshape_result_ne _ _ _ _ _ _ _ (r := main_call0_v0) (by decide)]
  exact StableHlo.reshape_result main_arg0 main_call0_v0 rfl shapeCasts_S2x64x48x48x48_S2x64x110592 _ _ (B₀ m ρ c)

theorem pin_eq (c : Dev nD) : pin m ρ c = shapeCast S2x16x110592 (m ((c : Thread nD τ).loc main_arg1)) shapeCasts_S2x16x48x48x48_S2x16x110592 := by
  unfold pin B₁
  rw [StableHlo.after_cons, StableHlo.after_cons, StableHlo.after_nil]
  refine (StableHlo.reshape_result main_arg1 main_call0_v1 rfl shapeCasts_S2x16x48x48x48_S2x16x110592 _ _ _).trans ?_
  exact congrArg (fun f => shapeCast S2x16x110592 f shapeCasts_S2x16x48x48x48_S2x16x110592)
    (StableHlo.reshape_result_ne main_arg0 main_call0_v0 rfl shapeCasts_S2x64x48x48x48_S2x64x110592 _ _ (B₀ m ρ c) (r := main_arg1) (by decide))

theorem B₃_of_ne (c : Dev nD) (b : Ref sig .tc) (h0 : b ≠ main_call0_v0) (h1 : b ≠ main_call0_v1) (h2 : b ≠ main_call0_v2) (h3 : b ≠ main_v0) :
    B₃ m ρ c (Proc.devRef .tc b) = m ((c : Thread nD τ).loc b) := by
  unfold B₃
  rw [StableHlo.after_cons, StableHlo.after_nil, StableHlo.reshape_result_ne _ _ _ _ _ _ _ h3, B₂_of_ne m ρ c b h2]
  unfold B₁
  rw [StableHlo.after_cons, StableHlo.after_cons, StableHlo.after_nil, StableHlo.reshape_result_ne _ _ _ _ _ _ _ h1,
    StableHlo.reshape_result_ne _ _ _ _ _ _ _ h0]

theorem B₃_out (c : Dev nD) : B₃ m ρ c (Proc.devRef .tc main_v0) = result (m ((c : Thread nD τ).loc main_arg0)) (m ((c : Thread nD τ).loc main_arg1)) := by
  unfold B₃ result
  rw [← xin_eq m ρ, ← pin_eq m ρ, StableHlo.after_cons, StableHlo.after_nil]
  refine (StableHlo.reshape_result main_call0_v2 main_v0 rfl shapeCasts_S2x64x110592_S2x64x48x48x48 _ _ (B₂ m ρ c)).trans ?_
  exact congrArg (fun f => shapeCast S2x64x48x48x48 f shapeCasts_S2x64x110592_S2x64x48x48x48) (B₂_out m ρ c)

/-- Every run ends with the result computed, the arguments as they were, every counter at zero. -/
theorem run_value : θ_run defs (onTc (τ := τ) (main (F := F))) ⟨m, fun _ => 0, ρ⟩ (fun r => (∀ c : Dev nD,
      r.2.mem ((c.tc : Thread nD τ).loc main_v0) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h.1 c).1.trans (B₃_out m ρ c),
    (h.1 c).2.1.trans (B₃_of_ne m ρ c main_arg0 (by decide) (by decide) (by decide) (by decide)),
    (h.1 c).2.2.trans (B₃_of_ne m ρ c main_arg1 (by decide) (by decide) (by decide) (by decide))⟩, h.2⟩) (run_main m ρ)

end Cert.KernelIdeal.Hand
-- ==== Proof.RefSpec.lean ====
/- The reference's own steps for one image, as functions of arrays: each definition is one line (or two) of
   the reference's text. -/
module

public import proofs.«01_k».proof.Proof.Gen.ReferenceIdeal

@[expose] public section

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The features with the voxels in front of the channels. -/
def featT (x : Vec F S2x64x48x48x48 .f32) : Vec F S2x110592x64 .f32 :=
  transpose S2x110592x64 [0, 2, 1] (shapeCast S2x64x110592 x shapeCasts_S2x64x48x48x48_S2x64x110592) transposes_S2x64x110592_S2x110592x64_0_2_1

/-- The scores with the voxels in front of the classes. -/
def predT (p : Vec F S2x16x48x48x48 .f32) : Vec F S2x110592x16 .f32 :=
  transpose S2x110592x16 [0, 2, 1] (shapeCast S2x16x110592 p shapeCasts_S2x16x48x48x48_S2x16x110592) transposes_S2x16x110592_S2x110592x16_0_2_1

/-- The features of the first image. -/
def feat0 (y : Vec F S2x110592x64 .f32) : Vec F S110592x64 .f32 :=
  shapeCast S110592x64 (extractStridedSlice S1x110592x64 ![0, 0, 0] y slices_S2x110592x64_S1x110592x64_0_0_0) shapeCasts_S1x110592x64_S110592x64

/-- The features of the second image. -/
def feat1 (y : Vec F S2x110592x64 .f32) : Vec F S110592x64 .f32 :=
  shapeCast S110592x64 (extractStridedSlice S1x110592x64 ![1, 0, 0] y slices_S2x110592x64_S1x110592x64_1_0_0) shapeCasts_S1x110592x64_S110592x64

/-- The scores of the first image. -/
def pred0 (q : Vec F S2x110592x16 .f32) : Vec F S110592x16 .f32 :=
  shapeCast S110592x16 (extractStridedSlice S1x110592x16 ![0, 0, 0] q slices_S2x110592x16_S1x110592x16_0_0_0) shapeCasts_S1x110592x16_S110592x16

/-- The scores of the second image. -/
def pred1 (q : Vec F S2x110592x16 .f32) : Vec F S110592x16 .f32 :=
  shapeCast S110592x16 (extractStridedSlice S1x110592x16 ![1, 0, 0] q slices_S2x110592x16_S1x110592x16_1_0_0) shapeCasts_S1x110592x16_S110592x16

/-- Each voxel's class: the first class of the largest score. -/
def segOf (q : Vec F S110592x16 .f32) : Vec F S110592 .i32 := fun j =>
  (Host.argReduce reducer_argmax_f32_i32 q (iotaInDim S110592x16 32 1) (constant S_ .f32 0xFF800000#32) (constantI S_ 32 0#32)
    reducesTo_S110592x16_S110592_d1 h_S_ j).2

/-- The class per voxel as a column. -/
def segCol (g : Vec F S110592 .i32) : Vec F S110592x1 .i32 := broadcastInDim S110592x1 ![0] bcast_S110592_S110592x1_0 g

/-- The index at which the score is taken along the class axis: a negative one counts from the end. -/
def takeIdx (g : Vec F S110592 .i32) : Vec F S110592x1x1 .i32 :=
  shapeCast S110592x1x1 (select (cmpi .slt (segCol (F := F) g) (broadcastInDim S110592x1 ![] bcast_S_S110592x1 (constantI S_ 32 0#32)))
    (addi (segCol (F := F) g) (broadcastInDim S110592x1 ![] bcast_S_S110592x1 (constantI S_ 32 16#32))) (segCol (F := F) g)) shapeCasts_S110592x1_S110592x1x1

/-- Whether that index lies in the class axis. -/
def takeOk (i : Vec F S110592x1x1 .i32) : Vec F S110592x1 .i1 :=
  Host.reduce IntOp.andi (andi (cmpi .sge i (broadcastInDim S110592x1x1 ![] bcast_S_S110592x1x1 (constantI S_ 32 0#32)))
    (cmpi .sle i (broadcastInDim S110592x1x1 ![0, 1, 2] bcast_S1x1x1_S110592x1x1_0_1_2 (broadcastInDim S1x1x1 ![2] bcast_S1_S1x1x1_2 (constantI S1 32 15#32)))))
    (constantI S_ 1 1#1) reducesTo_S110592x1x1_S110592x1_d2 h_S_

/-- Each voxel's score of its own class. -/
def scoreOf (q : Vec F S110592x16 .f32) (g : Vec F S110592 .i32) : Vec F S110592 .f32 :=
  shapeCast S110592 (select (takeOk (F := F) (takeIdx (F := F) g)) (Host.gather gather_S110592x16_S110592x1x1_S110592x1_n_1_0_0_1_2_11 q (takeIdx (F := F) g))
    (broadcastInDim S110592x1 ![] bcast_S_S110592x1 (constant S_ .f32 0x7FC00000#32))) shapeCasts_S110592x1_S110592

/-- The scores of the voxels of each class, and minus infinity elsewhere. -/
def masked (g : Vec F S110592 .i32) (s : Vec F S110592 .f32) : Vec F S110592x16 .f32 :=
  select (cmpi .eq (broadcastInDim S110592x16 ![0, 1] bcast_S110592x1_S110592x16_0_1 (segCol (F := F) g))
      (broadcastInDim S110592x16 ![0, 1] bcast_S1x16_S110592x16_0_1 (broadcastInDim S1x16 ![1] bcast_S16_S1x16_1 (iotaInDim S16 32 0))))
    (broadcastInDim S110592x16 ![0, 1] bcast_S110592x1_S110592x16_0_1 (broadcastInDim S110592x1 ![0] bcast_S110592_S110592x1_0 s))
    (broadcastInDim S110592x16 ![] bcast_S_S110592x16 (constant S_ .f32 0xFF800000#32))

/-- The largest score of each class. -/
def classMax (g : Vec F S110592 .i32) (s : Vec F S110592 .f32) : Vec F S16 .f32 :=
  Host.reduce FloatOps.maximumf (masked g s) (constant S_ .f32 0xFF800000#32) reducesTo_S110592x16_S16_d0 h_S_

/-- The largest score of each class where it is finite, and zero elsewhere. -/
def safeMax (g : Vec F S110592 .i32) (s : Vec F S110592 .f32) : Vec F S16 .f32 :=
  select (cmpf .olt (Host.absf (classMax g s)) (broadcastInDim S16 ![] bcast_S_S16 (constant S_ .f32 0x7F800000#32))) (classMax g s) (broadcastInDim S16 ![] bcast_S_S16 (constant S_ .f32 0x00000000#32))

/-- The class per voxel as a gather takes it: a negative one counts from the end. -/
def rowIdx (g : Vec F S110592 .i32) : Vec F S110592x1 .i32 :=
  broadcastInDim S110592x1 ![0] bcast_S110592_S110592x1_0 (select (cmpi .slt g (broadcastInDim S110592 ![] bcast_S_S110592 (constantI S_ 32 0#32)))
    (addi g (broadcastInDim S110592 ![] bcast_S_S110592 (constantI S_ 32 16#32))) g)

/-- The exponentials. -/
def expOf (s : Vec F S110592 .f32) (m : Vec F S16 .f32) (i : Vec F S110592x1 .i32) : Vec F S110592 .f32 :=
  Host.exp (subf s (Host.gather gather_S16_S110592x1_S110592_n_0_n_n_0_1_1 m i))

/-- The sum over each class's voxels. -/
def sumOf (g : Vec F S110592 .i32) (e : Vec F S110592 .f32) : Vec F S16 .f32 :=
  Host.scatterAdd scatter_S16_S110592x1_S110592_n_0_0_1 (broadcastInDim S16 ![] bcast_S_S16 (constant S_ .f32 0x00000000#32)) (segCol (F := F) g) e

/-- That sum where it is positive, and one elsewhere. -/
def safeDen (g : Vec F S110592 .i32) (e : Vec F S110592 .f32) : Vec F S16 .f32 :=
  select (cmpf .ogt (sumOf g e) (broadcastInDim S16 ![] bcast_S_S16 (constant S_ .f32 0x00000000#32))) (sumOf g e)
    (broadcastInDim S16 ![] bcast_S_S16 (constant S_ .f32 0x3F800000#32))

/-- The features times the weights. -/
def weighted (x : Vec F S110592x64 .f32) (e : Vec F S110592 .f32) (d : Vec F S16 .f32) (g : Vec F S110592 .i32) : Vec F S110592x64 .f32 :=
  mulf x (broadcastInDim S110592x64 ![0, 1] bcast_S110592x1_S110592x64_0_1 (broadcastInDim S110592x1 ![0] bcast_S110592_S110592x1_0
    (Host.divf e (Host.gather gather_S16_S110592x1_S110592_n_0_n_n_0_1_1 d (rowIdx (F := F) g)))))

/-- The sum of a feature array over each class's voxels, from a start value. -/
def sumRows (z : Vec F S_ .f32) (g : Vec F S110592 .i32) (y : Vec F S110592x64 .f32) : Vec F S16x64 .f32 :=
  Host.scatterAdd scatter_S16x64_S110592x1_S110592x64_1_0_0_1 (broadcastInDim S16x64 ![] bcast_S_S16x64 z) (segCol (F := F) g) y

/-- How many voxels each class has. -/
def countOf (g : Vec F S110592 .i32) : Vec F S16 .f32 :=
  sumOf g (broadcastInDim S110592 ![] bcast_S_S110592 (constant S_ .f32 0x3F800000#32))

/-- The prototypes: the weighted sums divided by the counts, and zero for a class without voxels. -/
def protos (u : Vec F S16x64 .f32) (g : Vec F S110592 .i32) : Vec F S16x64 .f32 :=
  select (broadcastInDim S16x64 ![0, 1] bcast_S16x1_S16x64_0_1 (cmpf .ogt (broadcastInDim S16x1 ![0] bcast_S16_S16x1_0 (countOf (F := F) g))
      (broadcastInDim S16x1 ![] bcast_S_S16x1 (constant S_ .f32 0x00000000#32))))
    (Host.divf u (broadcastInDim S16x64 ![0, 1] bcast_S16x1_S16x64_0_1 (broadcastInDim S16x1 ![0] bcast_S16_S16x1_0
      (maximumf (countOf (F := F) g) (broadcastInDim S16 ![] bcast_S_S16 (constant S_ .f32 0x3F800000#32))))))
    (broadcastInDim S16x64 ![] bcast_S_S16x64 (constant S_ .f32 0x00000000#32))

/-- The prototype of each voxel's class. -/
def backOf (u : Vec F S16x64 .f32) (g : Vec F S110592 .i32) : Vec F S110592x64 .f32 :=
  Host.gather gather_S16x64_S110592x1_S110592x64_1_0_n_n_0_1_164 u (rowIdx (F := F) g)

/-- The exponentials of one image, from its scores. -/
def expsOf (q : Vec F S110592x16 .f32) : Vec F S110592 .f32 :=
  expOf (scoreOf q (segOf q)) (safeMax (segOf q) (scoreOf q (segOf q))) (rowIdx (F := F) (segOf q))

/-- One image through the reference: every voxel's prototype. -/
def pam (x : Vec F S110592x64 .f32) (q : Vec F S110592x16 .f32) : Vec F S110592x64 .f32 :=
  backOf (protos (sumRows (constant S_ .f32 0x00000000#32) (segOf q) (weighted x (expsOf q) (safeDen (segOf q) (expsOf q)) (segOf q))) (segOf q)) (segOf q)

/-- Two images' prototypes, stacked. -/
def stacked (a b : Vec F S110592x64 .f32) : Vec F S2x110592x64 .f32 :=
  concatenate S2x110592x64 0 [⟨S1x110592x64, broadcastInDim S1x110592x64 ![1, 2] bcast_S110592x64_S1x110592x64_1_2 a⟩,
    ⟨S1x110592x64, broadcastInDim S1x110592x64 ![1, 2] bcast_S110592x64_S1x110592x64_1_2 b⟩] concatenates_S1x110592x64_S1x110592x64_S2x110592x64_d0

/-- The reference's result, as a function of its two arguments. -/
def refResult (x : Vec F S2x64x48x48x48 .f32) (p : Vec F S2x16x48x48x48 .f32) : Vec F S2x64x48x48x48 .f32 :=
  mulf x (transpose S2x64x48x48x48 [0, 4, 1, 2, 3]
    (shapeCast S2x48x48x48x64 (stacked (pam (feat0 (featT x)) (pred0 (predT p))) (pam (feat1 (featT x)) (pred1 (predT p)))) shapeCasts_S2x110592x64_S2x48x48x48x64)
    transposes_S2x48x48x48x64_S2x64x48x48x48_0_4_1_2_3)

end Cert.ReferenceIdeal.Hand

end
-- ==== Proof.RefOps.lean ====
/- The reference's operations as lists, one list per step of its text, and what each list leaves in the buffers that
   later steps read. -/
module

public import proofs.«01_k».proof.Proof.RefSpec
public import Idealize.ShloMosaic.Lib.StableHlo.Run
public import Idealize.ShloMosaic.Lib.StableHlo.RunRead
public import Idealize.ShloMosaic.Lib.Pipeline.Frame

@[expose] public section

set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations before the two images are taken apart: both arguments flattened and transposed. -/
abbrev opsA : List (HloOp τ sig (Elt F)) :=
  [ reshape main_arg0 main_v0 (rfl : (.f32 : EltTy) = .f32) shapeCasts_S2x64x48x48x48_S2x64x110592,
    unary main_v0 main_v1 ((transpose S2x110592x64 [0, 2, 1] · transposes_S2x64x110592_S2x110592x64_0_2_1) : (⟨S2x64x110592, .f32⟩ : BufTy).Contents (Elt F) → (⟨S2x110592x64, .f32⟩ : BufTy).Contents (Elt F)),
    reshape main_arg1 main_v2 (rfl : (.f32 : EltTy) = .f32) shapeCasts_S2x16x48x48x48_S2x16x110592,
    unary main_v2 main_v3 ((transpose S2x110592x16 [0, 2, 1] · transposes_S2x16x110592_S2x110592x16_0_2_1) : (⟨S2x16x110592, .f32⟩ : BufTy).Contents (Elt F) → (⟨S2x110592x16, .f32⟩ : BufTy).Contents (Elt F)) ]

/-- What `opsA` writes, in order. -/
abbrev opsA_W : List (Ref sig .tc) := [main_v0, main_v1, main_v2, main_v3]

theorem opsA_keep (V : Valuation τ sig (Elt F)) (r : Ref sig .tc) (h : r ∉ opsA_W) :
    after (opsA (F := F)) V (no_index (Proc.devRef .tc r)) = V (Proc.devRef .tc r) := after_unwritten opsA_W rfl h V

theorem opsA_sub : (opsA : List (HloOp τ sig (Elt F))).Forall fun op => op.bufs ⊆ tcRefs τ sig :=
  ⟨reshape_bufs_sub .., unary_bufs_sub .., reshape_bufs_sub .., unary_bufs_sub ..⟩

theorem opsA_fresh : (opsA : List (HloOp τ sig (Elt F))).Forall fun op => op.fresh = ∅ :=
  ⟨rfl, rfl, rfl, rfl⟩

/-- Image 0: the image's features and scores, and each voxel's class. -/
abbrev ops0_0 : List (HloOp τ sig (Elt F)) :=
  [ unary main_v1 main_v4 ((extractStridedSlice S1x110592x64 ![0, 0, 0] · slices_S2x110592x64_S1x110592x64_0_0_0) : (⟨S2x110592x64, .f32⟩ : BufTy).Contents (Elt F) → (⟨S1x110592x64, .f32⟩ : BufTy).Contents (Elt F)),
    reshape main_v4 main_v5 (rfl : (.f32 : EltTy) = .f32) shapeCasts_S1x110592x64_S110592x64,
    unary main_v3 main_v6 ((extractStridedSlice S1x110592x16 ![0, 0, 0] · slices_S2x110592x16_S1x110592x16_0_0_0) : (⟨S2x110592x16, .f32⟩ : BufTy).Contents (Elt F) → (⟨S1x110592x16, .f32⟩ : BufTy).Contents (Elt F)),
    reshape main_v6 main_v7 (rfl : (.f32 : EltTy) = .f32) shapeCasts_S1x110592x16_S110592x16,
    nullary main_call0_v0 (iotaInDim S110592x16 32 1),
    nullary main_call0_cst (constant S_ .f32 0xFF800000#32),
    nullary main_call0_c (constantI S_ 32 0#32),
    quaternary main_v7 main_call0_v0 main_call0_cst main_call0_c main_call0_v1_0 ((fun x y u v j => (Host.argReduce reducer_argmax_f32_i32 x y u v reducesTo_S110592x16_S110592_d1 h_S_ j).1) : (⟨S110592x16, .f32⟩ : BufTy).Contents (Elt F) → (⟨S110592x16, .i32⟩ : BufTy).Contents (Elt F) → (⟨S_, .f32⟩ : BufTy).Contents (Elt F) → (⟨S_, .i32⟩ : BufTy).Contents (Elt F) → (⟨S110592, .f32⟩ : BufTy).Contents (Elt F)),
    quaternary main_v7 main_call0_v0 main_call0_cst main_call0_c main_v8 ((fun x y u v j => (Host.argReduce reducer_argmax_f32_i32 x y u v reducesTo_S110592x16_S110592_d1 h_S_ j).2) : (⟨S110592x16, .f32⟩ : BufTy).Contents (Elt F) → (⟨S110592x16, .i32⟩ : BufTy).Contents (Elt F) → (⟨S_, .f32⟩ : BufTy).Contents (Elt F) → (⟨S_, .i32⟩ : BufTy).Contents (Elt F) → (⟨S110592, .i32⟩ : BufTy).Contents (Elt F)) ]

/-- What `ops0_0` writes, in order. -/
abbrev ops0_0_W : List (Ref sig .tc) := [main_v4, main_v5, main_v6, main_v7, main_call0_v0, main_call0_cst, main_call0_c, main_call0_v1_0, main_v8]

theorem ops0_0_keep (V : Valuation τ sig (Elt F)) (r : Ref sig .tc) (h : r ∉ ops0_0_W) :
    after (ops0_0 (F := F)) V (no_index (Proc.devRef .tc r)) = V (Proc.devRef .tc r) := after_unwritten ops0_0_W rfl h V

theorem ops0_0_sub : (ops0_0 : List (HloOp τ sig (Elt F))).Forall fun op => op.bufs ⊆ tcRefs τ sig :=
  ⟨unary_bufs_sub .., reshape_bufs_sub .., unary_bufs_sub .., reshape_bufs_sub .., nullary_bufs_sub .., nullary_bufs_sub .., nullary_bufs_sub .., quaternary_bufs_sub .., quaternary_bufs_sub ..⟩

theorem ops0_0_fresh : (ops0_0 : List (HloOp τ sig (Elt F))).Forall fun op => op.fresh = ∅ :=
  ⟨rfl, rfl, rfl, rfl, rfl, rfl, rfl, rfl, rfl⟩

/-- Image 0: each voxel's own score. -/
abbrev ops0_1 : List (HloOp τ sig (Elt F)) :=
  [ unary main_v8 main_v9 (broadcastInDim S110592x1 ![0] bcast_S110592_S110592x1_0 : (⟨S110592, .i32⟩ : BufTy).Contents (Elt F) → (⟨S110592x1, .i32⟩ : BufTy).Contents (Elt F)),
    nullary main_call1_c (constantI S_ 32 0#32),
    unary main_call1_c main_call1_v0 ((broadcastInDim S110592x1 ![] bcast_S_S110592x1) : (⟨S_, .i32⟩ : BufTy).Contents (Elt F) → (⟨S110592x1, .i32⟩ : BufTy).Contents (Elt F)),
    binary main_v9 main_call1_v0 main_call1_v1 ((cmpi .slt) : (⟨S110592x1, .i32⟩ : BufTy).Contents (Elt F) → (⟨S110592x1, .i32⟩ : BufTy).Contents (Elt F) → (⟨S110592x1, .i1⟩ : BufTy).Contents (Elt F)),
    nullary main_call1_c_0 (constantI S_ 32 16#32),
    unary main_call1_c_0 main_call1_v2 ((broadcastInDim S110592x1 ![] bcast_S_S110592x1) : (⟨S_, .i32⟩ : BufTy).Contents (Elt F) → (⟨S110592x1, .i32⟩ : BufTy).Contents (Elt F)),
    binary main_v9 main_call1_v2 main_call1_v3 (addi : (⟨S110592x1, .i32⟩ : BufTy).Contents (Elt F) → (⟨S110592x1, .i32⟩ : BufTy).Contents (Elt F) → (⟨S110592x1, .i32⟩ : BufTy).Contents (Elt F)),
    ternary main_call1_v1 main_call1_v3 main_v9 main_call1_v4 (select : (⟨S110592x1, .i1⟩ : BufTy).Contents (Elt F) → (⟨S110592x1, .i32⟩ : BufTy).Contents (Elt F) → (⟨S110592x1, .i32⟩ : BufTy).Contents (Elt F) → (⟨S110592x1, .i32⟩ : BufTy).Contents (Elt F)),
    reshape main_call1_v4 main_call1_v5 (rfl : (.i32 : EltTy) = .i32) shapeCasts_S110592x1_S110592x1x1,
    nullary main_call1_c_1 (constantI S1 32 15#32),
    nullary main_call1_c_2 (constantI S_ 32 0#32),
    unary main_call1_c_2 main_call1_v6 ((broadcastInDim S110592x1x1 ![] bcast_S_S110592x1x1) : (⟨S_, .i32⟩ : BufTy).Contents (Elt F) → (⟨S110592x1x1, .i32⟩ : BufTy).Contents (Elt F)),
    binary main_call1_v5 main_call1_v6 main_call1_v7 ((cmpi .sge) : (⟨S110592x1x1, .i32⟩ : BufTy).Contents (Elt F) → (⟨S110592x1x1, .i32⟩ : BufTy).Contents (Elt F) → (⟨S110592x1x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S110592x1x1 ![0, 1, 2] bcast_S1x1x1_S110592x1x1_0_1_2) : (⟨S1x1x1, .i32⟩ : BufTy).Contents (Elt F) → (⟨S110592x1x1, .i32⟩ : BufTy).Contents (Elt F)),
    binary main_call1_v5 main_call1_v9 main_call1_v10 ((cmpi .sle) : (⟨S110592x1x1, .i32⟩ : BufTy).Contents (Elt F) → (⟨S110592x1x1, .i32⟩ : BufTy).Contents (Elt F) → (⟨S110592x1x1, .i1⟩ : BufTy).Contents (Elt F)),
    binary main_call1_v7 main_call1_v10 main_call1_v11 (andi : (⟨S110592x1x1, .i1⟩ : BufTy).Contents (Elt F) → (⟨S110592x1x1, .i1⟩ : BufTy).Contents (Elt F) → (⟨S110592x1x1, .i1⟩ : BufTy).Contents (Elt F)),
    nullary main_call1_c_3 (constantI S_ 1 1#1),
    binary main_call1_v11 main_call1_c_3 main_call1_v12 ((fun x v => Host.reduce IntOp.andi x v reducesTo_S110592x1x1_S110592x1_d2 h_S_) : (⟨S110592x1x1, .i1⟩ : BufTy).Contents (Elt F) → (⟨S_, .i1⟩ : BufTy).Contents (Elt F) → (⟨S110592x1, .i1⟩ : BufTy).Contents (Elt F)),
    binary main_v7 main_call1_v5 main_call1_v13 ((fun x i => Host.gather gather_S110592x16_S110592x1x1_S110592x1_n_1_0_0_1_2_11 x i) : (⟨S110592x16, .f32⟩ : BufTy).Contents (Elt F) → (⟨S110592x1x1, .i32⟩ : BufTy).Contents (Elt F) → (⟨S110592x1, .f32⟩ : BufTy).Contents (Elt F)),
    nullary main_call1_cst (constant S_ .f32 0x7FC00000#32),
    unary main_call1_cst main_call1_v14 ((broadcastInDim S110592x1 ![] bcast_S_S110592x1) : (⟨S_, .f32⟩ : BufTy).Contents (Elt F) → (⟨S110592x1, .f32⟩ : BufTy).Contents (Elt F)),
    ternary main_call1_v12 main_call1_v13 main_call1_v14 main_v10 (select : (⟨S110592x1, .i1⟩ : BufTy).Contents (Elt F) → (⟨S110592x1, .f32⟩ : BufTy).Contents (Elt F) → (⟨S110592x1, .f32⟩ : BufTy).Contents (Elt F) → (⟨S110592x1, .f32⟩ : BufTy).Contents (Elt F)),
    reshape main_v10 main_v11 (rfl : (.f32 : EltTy) = .f32) shapeCasts_S110592x1_S110592 ]

/-- What `ops0_1` writes, in order. -/
abbrev ops0_1_W : List (Ref sig .tc) := [main_v9, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v10, main_v11]

theorem ops0_1_keep (V : Valuation τ sig (Elt F)) (r : Ref sig .tc) (h : r ∉ ops0_1_W) :
    after (ops0_1 (F := F)) V (no_index (Proc.devRef .tc r)) = V (Proc.devRef .tc r) := after_unwritten ops0_1_W rfl h V

theorem ops0_1_sub : (ops0_1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

theorem ops0_1_fresh : (ops0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- Image 0: the largest score per class. -/
abbrev ops0_2 : List (HloOp τ sig (Elt F)) :=
  [ nullary main_v12 (iotaInDim S16 32 0),
    unary main_v8 main_v13 (broadcastInDim S110592x1 ![0] bcast_S110592_S110592x1_0 : (⟨S110592, .i32⟩ : BufTy).Contents (Elt F) → (⟨S110592x1, .i32⟩ : BufTy).Contents (Elt F)),
    unary main_v12 main_v14 (broadcastInDim S1x16 ![1] bcast_S16_S1x16_1 : (⟨S16, .i32⟩ : BufTy).Contents (Elt F) → (⟨S1x16, .i32⟩ : BufTy).Contents (Elt F)),
    unary main_v13 main_v15 (broadcastInDim S110592x16 ![0, 1] bcast_S110592x1_S110592x16_0_1 : (⟨S110592x1, .i32⟩ : BufTy).Contents (Elt F) → (⟨S110592x16, .i32⟩ : BufTy).Contents (Elt F)),
    unary main_v14 main_v16 (broadcastInDim S110592x16 ![0, 1] bcast_S1x16_S110592x16_0_1 : (⟨S1x16, .i32⟩ : BufTy).Contents (Elt F) → (⟨S110592x16, .i32⟩ : BufTy).Contents (Elt F)),
    binary main_v15 main_v16 main_v17 (cmpi .eq : (⟨S110592x16, .i32⟩ : BufTy).Contents (Elt F) → (⟨S110592x16, .i32⟩ : BufTy).Contents (Elt F) → (⟨S110592x16, .i1⟩ : BufTy).Contents (Elt F)),
    unary main_v11 main_v18 (broadcastInDim S110592x1 ![0] bcast_S110592_S110592x1_0 : (⟨S110592, .f32⟩ : BufTy).Contents (Elt F) → (⟨S110592x1, .f32⟩ : BufTy).Contents (Elt F)),
    nullary main_cst (constant S_ .f32 0xFF800000#32),
    unary main_cst main_call2_v0 (id : (⟨S_, .f32⟩ : BufTy).Contents (Elt F) → (⟨S_, .f32⟩ : BufTy).Contents (Elt F)),
    unary main_v18 main_call2_v1 ((broadcastInDim S110592x16 ![0, 1] bcast_S110592x1_S110592x16_0_1) : (⟨S110592x1, .f32⟩ : BufTy).Contents (Elt F) → (⟨S110592x16, .f32⟩ : BufTy).Contents (Elt F)),
    unary main_call2_v0 main_call2_v2 ((broadcastInDim S110592x16 ![] bcast_S_S110592x16) : (⟨S_, .f32⟩ : BufTy).Contents (Elt F) → (⟨S110592x16, .f32⟩ : BufTy).Contents (Elt F)),
    ternary main_v17 main_call2_v1 main_call2_v2 main_v19 (select : (⟨S110592x16, .i1⟩ : BufTy).Contents (Elt F) → (⟨S110592x16, .f32⟩ : BufTy).Contents (Elt F) → (⟨S110592x16, .f32⟩ : BufTy).Contents (Elt F) → (⟨S110592x16, .f32⟩ : BufTy).Contents (Elt F)),
    nullary main_cst_0 (constant S_ .f32 0xFF800000#32),
    binary main_v19 main_cst_0 main_v20 ((fun x v => Host.reduce FloatOps.maximumf x v reducesTo_S110592x16_S16_d0 h_S_) : (⟨S110592x16, .f32⟩ : BufTy).Contents (Elt F) → (⟨S_, .f32⟩ : BufTy).Contents (Elt F) → (⟨S16, .f32⟩ : BufTy).Contents (Elt F)),
    unary main_v20 main_v21 (Host.absf : (⟨S16, .f32⟩ : BufTy).Contents (Elt F) → (⟨S16, .f32⟩ : BufTy).Contents (Elt F)),
    nullary main_cst_1 (constant S_ .f32 0x7F800000#32),
    unary main_cst_1 main_v22 (broadcastInDim S16 ![] bcast_S_S16 : (⟨S_, .f32⟩ : BufTy).Contents (Elt F) → (⟨S16, .f32⟩ : BufTy).Contents (Elt F)),
    binary main_v21 main_v22 main_v23 (cmpf .olt : (⟨S16, .f32⟩ : BufTy).Contents (Elt F) → (⟨S16, .f32⟩ : BufTy).Contents (Elt F) → (⟨S16, .i1⟩ : BufTy).Contents (Elt F)),
    nullary main_cst_2 (constant S_ .f32 0x00000000#32),
    unary main_cst_2 main_call3_v0 (id : (⟨S_, .f32⟩ : BufTy).Contents (Elt F) → (⟨S_, .f32⟩ : BufTy).Contents (Elt F)),
    unary main_call3_v0 main_call3_v1 ((broadcastInDim S16 ![] bcast_S_S16) : (⟨S_, .f32⟩ : BufTy).Contents (Elt F) → (⟨S16, .f32⟩ : BufTy).Contents (Elt F)),
    ternary main_v23 main_v20 main_call3_v1 main_v24 (select : (⟨S16, .i1⟩ : BufTy).Contents (Elt F) → (⟨S16, .f32⟩ : BufTy).Contents (Elt F) → (⟨S16, .f32⟩ : BufTy).Contents (Elt F) → (⟨S16, .f32⟩ : BufTy).Contents (Elt F)) ]

/-- What `ops0_2` writes, in order. -/
abbrev ops0_2_W : List (Ref sig .tc) := [main_v12, main_v13, main_v14, main_v15, main_v16, main_v17, main_v18, main_cst, main_call2_v0, main_call2_v1, main_call2_v2, main_v19, main_cst_0, main_v20, main_v21, main_cst_1, main_v22, main_v23, main_cst_2, main_call3_v0, main_call3_v1, main_v24]

theorem ops0_2_keep (V : Valuation τ sig (Elt F)) (r : Ref sig .tc) (h : r ∉ ops0_2_W) :
    after (ops0_2 (F := F)) V (no_index (Proc.devRef .tc r)) = V (Proc.devRef .tc r) := after_unwritten ops0_2_W rfl h V

theorem ops0_2_sub : (ops0_2 : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., nullary_bufs_sub .., unary_bufs_sub .., unary_bufs_sub .., unary_bufs_sub .., ternary_bufs_sub .., nullary_bufs_sub .., binary_bufs_sub .., unary_bufs_sub .., nullary_bufs_sub .., unary_bufs_sub .., binary_bufs_sub .., nullary_bufs_sub .., unary_bufs_sub .., unary_bufs_sub .., ternary_bufs_sub ..⟩

theorem ops0_2_fresh : (ops0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- Image 0: the class index as a gather takes it. -/
abbrev ops0_3 : List (HloOp τ sig (Elt F)) :=
  [ nullary main_c (constantI S_ 32 0#32),
    unary main_c main_v25 (broadcastInDim S110592 ![] bcast_S_S110592 : (⟨S_, .i32⟩ : BufTy).Contents (Elt F) → (⟨S110592, .i32⟩ : BufTy).Contents (Elt F)),
    binary main_v8 main_v25 main_v26 (cmpi .slt : (⟨S110592, .i32⟩ : BufTy).Contents (Elt F) → (⟨S110592, .i32⟩ : BufTy).Contents (Elt F) → (⟨S110592, .i1⟩ : BufTy).Contents (Elt F)),
    nullary main_c_3 (constantI S_ 32 16#32),
    unary main_c_3 main_v27 (broadcastInDim S110592 ![] bcast_S_S110592 : (⟨S_, .i32⟩ : BufTy).Contents (Elt F) → (⟨S110592, .i32⟩ : BufTy).Contents (Elt F)),
    binary main_v8 main_v27 main_v28 (addi : (⟨S110592, .i32⟩ : BufTy).Contents (Elt F) → (⟨S110592, .i32⟩ : BufTy).Contents (Elt F) → (⟨S110592, .i32⟩ : BufTy).Contents (Elt F)),
    ternary main_v26 main_v28 main_v8 main_v29 (select : (⟨S110592, .i1⟩ : BufTy).Contents (Elt F) → (⟨S110592, .i32⟩ : BufTy).Contents (Elt F) → (⟨S110592, .i32⟩ : BufTy).Contents (Elt F) → (⟨S110592, .i32⟩ : BufTy).Contents (Elt F)),
    unary main_v29 main_v30 (broadcastInDim S110592x1 ![0] bcast_S110592_S110592x1_0 : (⟨S110592, .i32⟩ : BufTy).Contents (Elt F) → (⟨S110592x1, .i32⟩ : BufTy).Contents (Elt F)) ]

/-- What `ops0_3` writes, in order. -/
abbrev ops0_3_W : List (Ref sig .tc) := [main_c, main_v25, main_v26, main_c_3, main_v27, main_v28, main_v29, main_v30]

theorem ops0_3_keep (V : Valuation τ sig (Elt F)) (r : Ref sig .tc) (h : r ∉ ops0_3_W) :
    after (ops0_3 (F := F)) V (no_index (Proc.devRef .tc r)) = V (Proc.devRef .tc r) := after_unwritten ops0_3_W rfl h V

theorem ops0_3_sub : (ops0_3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩

theorem ops0_3_fresh : (ops0_3 : List (HloOp τ sig (Elt F))).Forall fun op => op.fresh = ∅ :=
  ⟨rfl, rfl, rfl, rfl, rfl, rfl, rfl, rfl⟩

/-- Image 0: the exponentials. -/
abbrev ops0_4 : List (HloOp τ sig (Elt F)) :=
  [ binary main_v24 main_v30 main_v31 ((fun x i => Host.gather gather_S16_S110592x1_S110592_n_0_n_n_0_1_1 x i) : (⟨S16, .f32⟩ : BufTy).Contents (Elt F) → (⟨S110592x1, .i32⟩ : BufTy).Contents (Elt F) → (⟨S110592, .f32⟩ : BufTy).Contents (Elt F)),
    binary main_v11 main_v31 main_v32 (subf : (⟨S110592, .f32⟩ : BufTy).Contents (Elt F) → (⟨S110592, .f32⟩ : BufTy).Contents (Elt F) → (⟨S110592, .f32⟩ : BufTy).Contents (Elt F)),
    unary main_v32 main_v33 (Host.exp : (⟨S110592, .f32⟩ : BufTy).Contents (Elt F) → (⟨S110592, .f32⟩ : BufTy).Contents (Elt F)) ]

/-- What `ops0_4` writes, in order. -/
abbrev ops0_4_W : List (Ref sig .tc) := [main_v31, main_v32, main_v33]

theorem ops0_4_keep (V : Valuation τ sig (Elt F)) (r : Ref sig .tc) (h : r ∉ ops0_4_W) :
    after (ops0_4 (F := F)) V (no_index (Proc.devRef .tc r)) = V (Proc.devRef .tc r) := after_unwritten ops0_4_W rfl h V

theorem ops0_4_sub : (ops0_4 : List (HloOp τ sig (Elt F))).Forall fun op => op.bufs ⊆ tcRefs τ sig :=
  ⟨binary_bufs_sub .., binary_bufs_sub .., unary_bufs_sub ..⟩

theorem ops0_4_fresh : (ops0_4 : List (HloOp τ sig (Elt F))).Forall fun op => op.fresh = ∅ :=
  ⟨rfl, rfl, rfl⟩

/-- Image 0: their sum per class. -/
abbrev ops0_5 : List (HloOp τ sig (Elt F)) :=
  [ nullary main_cst_4 (constant S_ .f32 0x00000000#32),
    unary main_cst_4 main_v34 (broadcastInDim S16 ![] bcast_S_S16 : (⟨S_, .f32⟩ : BufTy).Contents (Elt F) → (⟨S16, .f32⟩ : BufTy).Contents (Elt F)),
    unary main_v8 main_v35 (broadcastInDim S110592x1 ![0] bcast_S110592_S110592x1_0 : (⟨S110592, .i32⟩ : BufTy).Contents (Elt F) → (⟨S110592x1, .i32⟩ : BufTy).Contents (Elt F)),
    ternary main_v34 main_v35 main_v33 main_v36 ((fun x i u => Host.scatterAdd scatter_S16_S110592x1_S110592_n_0_0_1 x i u) : (⟨S16, .f32⟩ : BufTy).Contents (Elt F) → (⟨S110592x1, .i32⟩ : BufTy).Contents (Elt F) → (⟨S110592, .f32⟩ : BufTy).Contents (Elt F) → (⟨S16, .f32⟩ : BufTy).Contents (Elt F)),
    nullary main_cst_5 (constant S_ .f32 0x00000000#32),
    unary main_cst_5 main_v37 (broadcastInDim S16 ![] bcast_S_S16 : (⟨S_, .f32⟩ : BufTy).Contents (Elt F) → (⟨S16, .f32⟩ : BufTy).Contents (Elt F)),
    binary main_v36 main_v37 main_v38 (cmpf .ogt : (⟨S16, .f32⟩ : BufTy).Contents (Elt F) → (⟨S16, .f32⟩ : BufTy).Contents (Elt F) → (⟨S16, .i1⟩ : BufTy).Contents (Elt F)),
    nullary main_cst_6 (constant S_ .f32 0x3F800000#32),
    unary main_cst_6 main_call4_v0 (id : (⟨S_, .f32⟩ : BufTy).Contents (Elt F) → (⟨S_, .f32⟩ : BufTy).Contents (Elt F)),
    unary main_call4_v0 main_call4_v1 ((broadcastInDim S16 ![] bcast_S_S16) : (⟨S_, .f32⟩ : BufTy).Contents (Elt F) → (⟨S16, .f32⟩ : BufTy).Contents (Elt F)),
    ternary main_v38 main_v36 main_call4_v1 main_v39 (select : (⟨S16, .i1⟩ : BufTy).Contents (Elt F) → (⟨S16, .f32⟩ : BufTy).Contents (Elt F) → (⟨S16, .f32⟩ : BufTy).Contents (Elt F) → (⟨S16, .f32⟩ : BufTy).Contents (Elt F)) ]

/-- What `ops0_5` writes, in order. -/
abbrev ops0_5_W : List (Ref sig .tc) := [main_cst_4, main_v34, main_v35, main_v36, main_cst_5, main_v37, main_v38, main_cst_6, main_call4_v0, main_call4_v1, main_v39]

theorem ops0_5_keep (V : Valuation τ sig (Elt F)) (r : Ref sig .tc) (h : r ∉ ops0_5_W) :
    after (ops0_5 (F := F)) V (no_index (Proc.devRef .tc r)) = V (Proc.devRef .tc r) := after_unwritten ops0_5_W rfl h V

theorem ops0_5_sub : (ops0_5 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., unary_bufs_sub .., ternary_bufs_sub ..⟩

theorem ops0_5_fresh : (ops0_5 : List (HloOp τ sig (Elt F))).Forall fun op => op.fresh = ∅ :=
  ⟨rfl, rfl, rfl, rfl, rfl, rfl, rfl, rfl, rfl, rfl, rfl⟩

/-- Image 0: the weighted features. -/
abbrev ops0_6 : List (HloOp τ sig (Elt F)) :=
  [ nullary main_c_7 (constantI S_ 32 0#32),
    unary main_c_7 main_v40 (broadcastInDim S110592 ![] bcast_S_S110592 : (⟨S_, .i32⟩ : BufTy).Contents (Elt F) → (⟨S110592, .i32⟩ : BufTy).Contents (Elt F)),
    binary main_v8 main_v40 main_v41 (cmpi .slt : (⟨S110592, .i32⟩ : BufTy).Contents (Elt F) → (⟨S110592, .i32⟩ : BufTy).Contents (Elt F) → (⟨S110592, .i1⟩ : BufTy).Contents (Elt F)),
    nullary main_c_8 (constantI S_ 32 16#32),
    unary main_c_8 main_v42 (broadcastInDim S110592 ![] bcast_S_S110592 : (⟨S_, .i32⟩ : BufTy).Contents (Elt F) → (⟨S110592, .i32⟩ : BufTy).Contents (Elt F)),
    binary main_v8 main_v42 main_v43 (addi : (⟨S110592, .i32⟩ : BufTy).Contents (Elt F) → (⟨S110592, .i32⟩ : BufTy).Contents (Elt F) → (⟨S110592, .i32⟩ : BufTy).Contents (Elt F)),
    ternary main_v41 main_v43 main_v8 main_v44 (select : (⟨S110592, .i1⟩ : BufTy).Contents (Elt F) → (⟨S110592, .i32⟩ : BufTy).Contents (Elt F) → (⟨S110592, .i32⟩ : BufTy).Contents (Elt F) → (⟨S110592, .i32⟩ : BufTy).Contents (Elt F)),
    unary main_v44 main_v45 (broadcastInDim S110592x1 ![0] bcast_S110592_S110592x1_0 : (⟨S110592, .i32⟩ : BufTy).Contents (Elt F) → (⟨S110592x1, .i32⟩ : BufTy).Contents (Elt F)),
    binary main_v39 main_v45 main_v46 ((fun x i => Host.gather gather_S16_S110592x1_S110592_n_0_n_n_0_1_1 x i) : (⟨S16, .f32⟩ : BufTy).Contents (Elt F) → (⟨S110592x1, .i32⟩ : BufTy).Contents (Elt F) → (⟨S110592, .f32⟩ : BufTy).Contents (Elt F)),
    binary main_v33 main_v46 main_v47 (Host.divf : (⟨S110592, .f32⟩ : BufTy).Contents (Elt F) → (⟨S110592, .f32⟩ : BufTy).Contents (Elt F) → (⟨S110592, .f32⟩ : BufTy).Contents (Elt F)),
    unary main_v47 main_v48 (broadcastInDim S110592x1 ![0] bcast_S110592_S110592x1_0 : (⟨S110592, .f32⟩ : BufTy).Contents (Elt F) → (⟨S110592x1, .f32⟩ : BufTy).Contents (Elt F)),
    unary main_v48 main_v49 (broadcastInDim S110592x64 ![0, 1] bcast_S110592x1_S110592x64_0_1 : (⟨S110592x1, .f32⟩ : BufTy).Contents (Elt F) → (⟨S110592x64, .f32⟩ : BufTy).Contents (Elt F)),
    binary main_v5 main_v49 main_v50 (mulf : (⟨S110592x64, .f32⟩ : BufTy).Contents (Elt F) → (⟨S110592x64, .f32⟩ : BufTy).Contents (Elt F) → (⟨S110592x64, .f32⟩ : BufTy).Contents (Elt F)),
    nullary main_cst_9 (constant S_ .f32 0x00000000#32) ]

/-- What `ops0_6` writes, in order. -/
abbrev ops0_6_W : List (Ref sig .tc) := [main_c_7, main_v40, main_v41, main_c_8, main_v42, main_v43, main_v44, main_v45, main_v46, main_v47, main_v48, main_v49, main_v50, main_cst_9]

theorem ops0_6_keep (V : Valuation τ sig (Elt F)) (r : Ref sig .tc) (h : r ∉ ops0_6_W) :
    after (ops0_6 (F := F)) V (no_index (Proc.devRef .tc r)) = V (Proc.devRef .tc r) := after_unwritten ops0_6_W rfl h V

theorem ops0_6_sub : (ops0_6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub ..⟩

theorem ops0_6_fresh : (ops0_6 : List (HloOp τ sig (Elt F))).Forall fun op => op.fresh = ∅ :=
  ⟨rfl, rfl, rfl, rfl, rfl, rfl, rfl, rfl, rfl, rfl, rfl, rfl, rfl, rfl⟩

/-- Image 0: their sum per class. -/
abbrev ops0_7 : List (HloOp τ sig (Elt F)) :=
  [ unary main_cst_9 main_v51 (broadcastInDim S16x64 ![] bcast_S_S16x64 : (⟨S_, .f32⟩ : BufTy).Contents (Elt F) → (⟨S16x64, .f32⟩ : BufTy).Contents (Elt F)),
    unary main_v8 main_v52 (broadcastInDim S110592x1 ![0] bcast_S110592_S110592x1_0 : (⟨S110592, .i32⟩ : BufTy).Contents (Elt F) → (⟨S110592x1, .i32⟩ : BufTy).Contents (Elt F)),
    ternary main_v51 main_v52 main_v50 main_v53 ((fun x i u => Host.scatterAdd scatter_S16x64_S110592x1_S110592x64_1_0_0_1 x i u) : (⟨S16x64, .f32⟩ : BufTy).Contents (Elt F) → (⟨S110592x1, .i32⟩ : BufTy).Contents (Elt F) → (⟨S110592x64, .f32⟩ : BufTy).Contents (Elt F) → (⟨S16x64, .f32⟩ : BufTy).Contents (Elt F)) ]

/-- What `ops0_7` writes, in order. -/
abbrev ops0_7_W : List (Ref sig .tc) := [main_v51, main_v52, main_v53]

theorem ops0_7_keep (V : Valuation τ sig (Elt F)) (r : Ref sig .tc) (h : r ∉ ops0_7_W) :
    after (ops0_7 (F := F)) V (no_index (Proc.devRef .tc r)) = V (Proc.devRef .tc r) := after_unwritten ops0_7_W rfl h V

theorem ops0_7_sub : (ops0_7 : List (HloOp τ sig (Elt F))).Forall fun op => op.bufs ⊆ tcRefs τ sig :=
  ⟨unary_bufs_sub .., unary_bufs_sub .., ternary_bufs_sub ..⟩

theorem ops0_7_fresh : (ops0_7 : List (HloOp τ sig (Elt F))).Forall fun op => op.fresh = ∅ :=
  ⟨rfl, rfl, rfl⟩

/-- Image 0: the prototypes. -/
abbrev ops0_8 : List (HloOp τ sig (Elt F)) :=
  [ nullary main_cst_10 (constant S_ .f32 0x3F800000#32),
    unary main_cst_10 main_v54 (broadcastInDim S110592 ![] bcast_S_S110592 : (⟨S_, .f32⟩ : BufTy).Contents (Elt F) → (⟨S110592, .f32⟩ : BufTy).Contents (Elt F)),
    nullary main_cst_11 (constant S_ .f32 0x00000000#32),
    unary main_cst_11 main_v55 (broadcastInDim S16 ![] bcast_S_S16 : (⟨S_, .f32⟩ : BufTy).Contents (Elt F) → (⟨S16, .f32⟩ : BufTy).Contents (Elt F)),
    unary main_v8 main_v56 (broadcastInDim S110592x1 ![0] bcast_S110592_S110592x1_0 : (⟨S110592, .i32⟩ : BufTy).Contents (Elt F) → (⟨S110592x1, .i32⟩ : BufTy).Contents (Elt F)),
    ternary main_v55 main_v56 main_v54 main_v57 ((fun x i u => Host.scatterAdd scatter_S16_S110592x1_S110592_n_0_0_1 x i u) : (⟨S16, .f32⟩ : BufTy).Contents (Elt F) → (⟨S110592x1, .i32⟩ : BufTy).Contents (Elt F) → (⟨S110592, .f32⟩ : BufTy).Contents (Elt F) → (⟨S16, .f32⟩ : BufTy).Contents (Elt F)),
    unary main_v57 main_v58 (broadcastInDim S16x1 ![0] bcast_S16_S16x1_0 : (⟨S16, .f32⟩ : BufTy).Contents (Elt F) → (⟨S16x1, .f32⟩ : BufTy).Contents (Elt F)),
    nullary main_cst_12 (constant S_ .f32 0x00000000#32),
    unary main_cst_12 main_v59 (broadcastInDim S16x1 ![] bcast_S_S16x1 : (⟨S_, .f32⟩ : BufTy).Contents (Elt F) → (⟨S16x1, .f32⟩ : BufTy).Contents (Elt F)),
    binary main_v58 main_v59 main_v60 (cmpf .ogt : (⟨S16x1, .f32⟩ : BufTy).Contents (Elt F) → (⟨S16x1, .f32⟩ : BufTy).Contents (Elt F) → (⟨S16x1, .i1⟩ : BufTy).Contents (Elt F)),
    nullary main_cst_13 (constant S_ .f32 0x3F800000#32),
    unary main_cst_13 main_v61 (broadcastInDim S16 ![] bcast_S_S16 : (⟨S_, .f32⟩ : BufTy).Contents (Elt F) → (⟨S16, .f32⟩ : BufTy).Contents (Elt F)),
    binary main_v57 main_v61 main_v62 (maximumf : (⟨S16, .f32⟩ : BufTy).Contents (Elt F) → (⟨S16, .f32⟩ : BufTy).Contents (Elt F) → (⟨S16, .f32⟩ : BufTy).Contents (Elt F)),
    unary main_v62 main_v63 (broadcastInDim S16x1 ![0] bcast_S16_S16x1_0 : (⟨S16, .f32⟩ : BufTy).Contents (Elt F) → (⟨S16x1, .f32⟩ : BufTy).Contents (Elt F)),
    unary main_v63 main_v64 (broadcastInDim S16x64 ![0, 1] bcast_S16x1_S16x64_0_1 : (⟨S16x1, .f32⟩ : BufTy).Contents (Elt F) → (⟨S16x64, .f32⟩ : BufTy).Contents (Elt F)),
    binary main_v53 main_v64 main_v65 (Host.divf : (⟨S16x64, .f32⟩ : BufTy).Contents (Elt F) → (⟨S16x64, .f32⟩ : BufTy).Contents (Elt F) → (⟨S16x64, .f32⟩ : BufTy).Contents (Elt F)),
    nullary main_cst_14 (constant S_ .f32 0x00000000#32),
    unary main_cst_14 main_call5_v0 (id : (⟨S_, .f32⟩ : BufTy).Contents (Elt F) → (⟨S_, .f32⟩ : BufTy).Contents (Elt F)),
    unary main_v60 main_call5_v1 ((broadcastInDim S16x64 ![0, 1] bcast_S16x1_S16x64_0_1) : (⟨S16x1, .i1⟩ : BufTy).Contents (Elt F) → (⟨S16x64, .i1⟩ : BufTy).Contents (Elt F)),
    unary main_call5_v0 main_call5_v2 ((broadcastInDim S16x64 ![] bcast_S_S16x64) : (⟨S_, .f32⟩ : BufTy).Contents (Elt F) → (⟨S16x64, .f32⟩ : BufTy).Contents (Elt F)),
    ternary main_call5_v1 main_v65 main_call5_v2 main_v66 (select : (⟨S16x64, .i1⟩ : BufTy).Contents (Elt F) → (⟨S16x64, .f32⟩ : BufTy).Contents (Elt F) → (⟨S16x64, .f32⟩ : BufTy).Contents (Elt F) → (⟨S16x64, .f32⟩ : BufTy).Contents (Elt F)) ]

/-- What `ops0_8` writes, in order. -/
abbrev ops0_8_W : List (Ref sig .tc) := [main_cst_10, main_v54, main_cst_11, main_v55, main_v56, main_v57, main_v58, main_cst_12, main_v59, main_v60, main_cst_13, main_v61, main_v62, main_v63, main_v64, main_v65, main_cst_14, main_call5_v0, main_call5_v1, main_call5_v2, main_v66]

theorem ops0_8_keep (V : Valuation τ sig (Elt F)) (r : Ref sig .tc) (h : r ∉ ops0_8_W) :
    after (ops0_8 (F := F)) V (no_index (Proc.devRef .tc r)) = V (Proc.devRef .tc r) := after_unwritten ops0_8_W rfl h V

theorem ops0_8_sub : (ops0_8 : List (HloOp τ sig (Elt F))).Forall fun op => op.bufs ⊆ tcRefs τ sig :=
  ⟨nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub ..⟩

theorem ops0_8_fresh : (ops0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- Image 0: the prototypes read back per voxel. -/
abbrev ops0_9 : List (HloOp τ sig (Elt F)) :=
  [ nullary main_c_15 (constantI S_ 32 0#32),
    unary main_c_15 main_v67 (broadcastInDim S110592 ![] bcast_S_S110592 : (⟨S_, .i32⟩ : BufTy).Contents (Elt F) → (⟨S110592, .i32⟩ : BufTy).Contents (Elt F)),
    binary main_v8 main_v67 main_v68 (cmpi .slt : (⟨S110592, .i32⟩ : BufTy).Contents (Elt F) → (⟨S110592, .i32⟩ : BufTy).Contents (Elt F) → (⟨S110592, .i1⟩ : BufTy).Contents (Elt F)),
    nullary main_c_16 (constantI S_ 32 16#32),
    unary main_c_16 main_v69 (broadcastInDim S110592 ![] bcast_S_S110592 : (⟨S_, .i32⟩ : BufTy).Contents (Elt F) → (⟨S110592, .i32⟩ : BufTy).Contents (Elt F)),
    binary main_v8 main_v69 main_v70 (addi : (⟨S110592, .i32⟩ : BufTy).Contents (Elt F) → (⟨S110592, .i32⟩ : BufTy).Contents (Elt F) → (⟨S110592, .i32⟩ : BufTy).Contents (Elt F)),
    ternary main_v68 main_v70 main_v8 main_v71 (select : (⟨S110592, .i1⟩ : BufTy).Contents (Elt F) → (⟨S110592, .i32⟩ : BufTy).Contents (Elt F) → (⟨S110592, .i32⟩ : BufTy).Contents (Elt F) → (⟨S110592, .i32⟩ : BufTy).Contents (Elt F)),
    unary main_v71 main_v72 (broadcastInDim S110592x1 ![0] bcast_S110592_S110592x1_0 : (⟨S110592, .i32⟩ : BufTy).Contents (Elt F) → (⟨S110592x1, .i32⟩ : BufTy).Contents (Elt F)),
    binary main_v66 main_v72 main_v73 ((fun x i => Host.gather gather_S16x64_S110592x1_S110592x64_1_0_n_n_0_1_164 x i) : (⟨S16x64, .f32⟩ : BufTy).Contents (Elt F) → (⟨S110592x1, .i32⟩ : BufTy).Contents (Elt F) → (⟨S110592x64, .f32⟩ : BufTy).Contents (Elt F)) ]

/-- What `ops0_9` writes, in order. -/
abbrev ops0_9_W : List (Ref sig .tc) := [main_c_15, main_v67, main_v68, main_c_16, main_v69, main_v70, main_v71, main_v72, main_v73]

theorem ops0_9_keep (V : Valuation τ sig (Elt F)) (r : Ref sig .tc) (h : r ∉ ops0_9_W) :
    after (ops0_9 (F := F)) V (no_index (Proc.devRef .tc r)) = V (Proc.devRef .tc r) := after_unwritten ops0_9_W rfl h V

theorem ops0_9_sub : (ops0_9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem ops0_9_fresh : (ops0_9 : List (HloOp τ sig (Elt F))).Forall fun op => op.fresh = ∅ :=
  ⟨rfl, rfl, rfl, rfl, rfl, rfl, rfl, rfl, rfl⟩

/-- Image 1: the image's features and scores, and each voxel's class. -/
abbrev ops1_0 : List (HloOp τ sig (Elt F)) :=
  [ unary main_v1 main_v74 ((extractStridedSlice S1x110592x64 ![1, 0, 0] · slices_S2x110592x64_S1x110592x64_1_0_0) : (⟨S2x110592x64, .f32⟩ : BufTy).Contents (Elt F) → (⟨S1x110592x64, .f32⟩ : BufTy).Contents (Elt F)),
    reshape main_v74 main_v75 (rfl : (.f32 : EltTy) = .f32) shapeCasts_S1x110592x64_S110592x64,
    unary main_v3 main_v76 ((extractStridedSlice S1x110592x16 ![1, 0, 0] · slices_S2x110592x16_S1x110592x16_1_0_0) : (⟨S2x110592x16, .f32⟩ : BufTy).Contents (Elt F) → (⟨S1x110592x16, .f32⟩ : BufTy).Contents (Elt F)),
    reshape main_v76 main_v77 (rfl : (.f32 : EltTy) = .f32) shapeCasts_S1x110592x16_S110592x16,
    nullary main_call6_v0 (iotaInDim S110592x16 32 1),
    nullary main_call6_cst (constant S_ .f32 0xFF800000#32),
    nullary main_call6_c (constantI S_ 32 0#32),
    quaternary main_v77 main_call6_v0 main_call6_cst main_call6_c main_call6_v1_0 ((fun x y u v j => (Host.argReduce reducer_argmax_f32_i32 x y u v reducesTo_S110592x16_S110592_d1 h_S_ j).1) : (⟨S110592x16, .f32⟩ : BufTy).Contents (Elt F) → (⟨S110592x16, .i32⟩ : BufTy).Contents (Elt F) → (⟨S_, .f32⟩ : BufTy).Contents (Elt F) → (⟨S_, .i32⟩ : BufTy).Contents (Elt F) → (⟨S110592, .f32⟩ : BufTy).Contents (Elt F)),
    quaternary main_v77 main_call6_v0 main_call6_cst main_call6_c main_v78 ((fun x y u v j => (Host.argReduce reducer_argmax_f32_i32 x y u v reducesTo_S110592x16_S110592_d1 h_S_ j).2) : (⟨S110592x16, .f32⟩ : BufTy).Contents (Elt F) → (⟨S110592x16, .i32⟩ : BufTy).Contents (Elt F) → (⟨S_, .f32⟩ : BufTy).Contents (Elt F) → (⟨S_, .i32⟩ : BufTy).Contents (Elt F) → (⟨S110592, .i32⟩ : BufTy).Contents (Elt F)) ]

/-- What `ops1_0` writes, in order. -/
abbrev ops1_0_W : List (Ref sig .tc) := [main_v74, main_v75, main_v76, main_v77, main_call6_v0, main_call6_cst, main_call6_c, main_call6_v1_0, main_v78]

theorem ops1_0_keep (V : Valuation τ sig (Elt F)) (r : Ref sig .tc) (h : r ∉ ops1_0_W) :
    after (ops1_0 (F := F)) V (no_index (Proc.devRef .tc r)) = V (Proc.devRef .tc r) := after_unwritten ops1_0_W rfl h V

theorem ops1_0_sub : (ops1_0 : List (HloOp τ sig (Elt F))).Forall fun op => op.bufs ⊆ tcRefs τ sig :=
  ⟨unary_bufs_sub .., reshape_bufs_sub .., unary_bufs_sub .., reshape_bufs_sub .., nullary_bufs_sub .., nullary_bufs_sub .., nullary_bufs_sub .., quaternary_bufs_sub .., quaternary_bufs_sub ..⟩

theorem ops1_0_fresh : (ops1_0 : List (HloOp τ sig (Elt F))).Forall fun op => op.fresh = ∅ :=
  ⟨rfl, rfl, rfl, rfl, rfl, rfl, rfl, rfl, rfl⟩

/-- Image 1: each voxel's own score. -/
abbrev ops1_1 : List (HloOp τ sig (Elt F)) :=
  [ unary main_v78 main_v79 (broadcastInDim S110592x1 ![0] bcast_S110592_S110592x1_0 : (⟨S110592, .i32⟩ : BufTy).Contents (Elt F) → (⟨S110592x1, .i32⟩ : BufTy).Contents (Elt F)),
    nullary main_call7_c (constantI S_ 32 0#32),
    unary main_call7_c main_call7_v0 ((broadcastInDim S110592x1 ![] bcast_S_S110592x1) : (⟨S_, .i32⟩ : BufTy).Contents (Elt F) → (⟨S110592x1, .i32⟩ : BufTy).Contents (Elt F)),
    binary main_v79 main_call7_v0 main_call7_v1 ((cmpi .slt) : (⟨S110592x1, .i32⟩ : BufTy).Contents (Elt F) → (⟨S110592x1, .i32⟩ : BufTy).Contents (Elt F) → (⟨S110592x1, .i1⟩ : BufTy).Contents (Elt F)),
    nullary main_call7_c_0 (constantI S_ 32 16#32),
    unary main_call7_c_0 main_call7_v2 ((broadcastInDim S110592x1 ![] bcast_S_S110592x1) : (⟨S_, .i32⟩ : BufTy).Contents (Elt F) → (⟨S110592x1, .i32⟩ : BufTy).Contents (Elt F)),
    binary main_v79 main_call7_v2 main_call7_v3 (addi : (⟨S110592x1, .i32⟩ : BufTy).Contents (Elt F) → (⟨S110592x1, .i32⟩ : BufTy).Contents (Elt F) → (⟨S110592x1, .i32⟩ : BufTy).Contents (Elt F)),
    ternary main_call7_v1 main_call7_v3 main_v79 main_call7_v4 (select : (⟨S110592x1, .i1⟩ : BufTy).Contents (Elt F) → (⟨S110592x1, .i32⟩ : BufTy).Contents (Elt F) → (⟨S110592x1, .i32⟩ : BufTy).Contents (Elt F) → (⟨S110592x1, .i32⟩ : BufTy).Contents (Elt F)),
    reshape main_call7_v4 main_call7_v5 (rfl : (.i32 : EltTy) = .i32) shapeCasts_S110592x1_S110592x1x1,
    nullary main_call7_c_1 (constantI S1 32 15#32),
    nullary main_call7_c_2 (constantI S_ 32 0#32),
    unary main_call7_c_2 main_call7_v6 ((broadcastInDim S110592x1x1 ![] bcast_S_S110592x1x1) : (⟨S_, .i32⟩ : BufTy).Contents (Elt F) → (⟨S110592x1x1, .i32⟩ : BufTy).Contents (Elt F)),
    binary main_call7_v5 main_call7_v6 main_call7_v7 ((cmpi .sge) : (⟨S110592x1x1, .i32⟩ : BufTy).Contents (Elt F) → (⟨S110592x1x1, .i32⟩ : BufTy).Contents (Elt F) → (⟨S110592x1x1, .i1⟩ : BufTy).Contents (Elt F)),
    unary main_call7_c_1 main_call7_v8 ((broadcastInDim S1x1x1 ![2] bcast_S1_S1x1x1_2) : (⟨S1, .i32⟩ : BufTy).Contents (Elt F) → (⟨S1x1x1, .i32⟩ : BufTy).Contents (Elt F)),
    unary main_call7_v8 main_call7_v9 ((broadcastInDim S110592x1x1 ![0, 1, 2] bcast_S1x1x1_S110592x1x1_0_1_2) : (⟨S1x1x1, .i32⟩ : BufTy).Contents (Elt F) → (⟨S110592x1x1, .i32⟩ : BufTy).Contents (Elt F)),
    binary main_call7_v5 main_call7_v9 main_call7_v10 ((cmpi .sle) : (⟨S110592x1x1, .i32⟩ : BufTy).Contents (Elt F) → (⟨S110592x1x1, .i32⟩ : BufTy).Contents (Elt F) → (⟨S110592x1x1, .i1⟩ : BufTy).Contents (Elt F)),
    binary main_call7_v7 main_call7_v10 main_call7_v11 (andi : (⟨S110592x1x1, .i1⟩ : BufTy).Contents (Elt F) → (⟨S110592x1x1, .i1⟩ : BufTy).Contents (Elt F) → (⟨S110592x1x1, .i1⟩ : BufTy).Contents (Elt F)),
    nullary main_call7_c_3 (constantI S_ 1 1#1),
    binary main_call7_v11 main_call7_c_3 main_call7_v12 ((fun x v => Host.reduce IntOp.andi x v reducesTo_S110592x1x1_S110592x1_d2 h_S_) : (⟨S110592x1x1, .i1⟩ : BufTy).Contents (Elt F) → (⟨S_, .i1⟩ : BufTy).Contents (Elt F) → (⟨S110592x1, .i1⟩ : BufTy).Contents (Elt F)),
    binary main_v77 main_call7_v5 main_call7_v13 ((fun x i => Host.gather gather_S110592x16_S110592x1x1_S110592x1_n_1_0_0_1_2_11 x i) : (⟨S110592x16, .f32⟩ : BufTy).Contents (Elt F) → (⟨S110592x1x1, .i32⟩ : BufTy).Contents (Elt F) → (⟨S110592x1, .f32⟩ : BufTy).Contents (Elt F)),
    nullary main_call7_cst (constant S_ .f32 0x7FC00000#32),
    unary main_call7_cst main_call7_v14 ((broadcastInDim S110592x1 ![] bcast_S_S110592x1) : (⟨S_, .f32⟩ : BufTy).Contents (Elt F) → (⟨S110592x1, .f32⟩ : BufTy).Contents (Elt F)),
    ternary main_call7_v12 main_call7_v13 main_call7_v14 main_v80 (select : (⟨S110592x1, .i1⟩ : BufTy).Contents (Elt F) → (⟨S110592x1, .f32⟩ : BufTy).Contents (Elt F) → (⟨S110592x1, .f32⟩ : BufTy).Contents (Elt F) → (⟨S110592x1, .f32⟩ : BufTy).Contents (Elt F)),
    reshape main_v80 main_v81 (rfl : (.f32 : EltTy) = .f32) shapeCasts_S110592x1_S110592 ]

/-- What `ops1_1` writes, in order. -/
abbrev ops1_1_W : List (Ref sig .tc) := [main_v79, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v80, main_v81]

theorem ops1_1_keep (V : Valuation τ sig (Elt F)) (r : Ref sig .tc) (h : r ∉ ops1_1_W) :
    after (ops1_1 (F := F)) V (no_index (Proc.devRef .tc r)) = V (Proc.devRef .tc r) := after_unwritten ops1_1_W rfl h V

theorem ops1_1_sub : (ops1_1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

theorem ops1_1_fresh : (ops1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- Image 1: the largest score per class. -/
abbrev ops1_2 : List (HloOp τ sig (Elt F)) :=
  [ nullary main_v82 (iotaInDim S16 32 0),
    unary main_v78 main_v83 (broadcastInDim S110592x1 ![0] bcast_S110592_S110592x1_0 : (⟨S110592, .i32⟩ : BufTy).Contents (Elt F) → (⟨S110592x1, .i32⟩ : BufTy).Contents (Elt F)),
    unary main_v82 main_v84 (broadcastInDim S1x16 ![1] bcast_S16_S1x16_1 : (⟨S16, .i32⟩ : BufTy).Contents (Elt F) → (⟨S1x16, .i32⟩ : BufTy).Contents (Elt F)),
    unary main_v83 main_v85 (broadcastInDim S110592x16 ![0, 1] bcast_S110592x1_S110592x16_0_1 : (⟨S110592x1, .i32⟩ : BufTy).Contents (Elt F) → (⟨S110592x16, .i32⟩ : BufTy).Contents (Elt F)),
    unary main_v84 main_v86 (broadcastInDim S110592x16 ![0, 1] bcast_S1x16_S110592x16_0_1 : (⟨S1x16, .i32⟩ : BufTy).Contents (Elt F) → (⟨S110592x16, .i32⟩ : BufTy).Contents (Elt F)),
    binary main_v85 main_v86 main_v87 (cmpi .eq : (⟨S110592x16, .i32⟩ : BufTy).Contents (Elt F) → (⟨S110592x16, .i32⟩ : BufTy).Contents (Elt F) → (⟨S110592x16, .i1⟩ : BufTy).Contents (Elt F)),
    unary main_v81 main_v88 (broadcastInDim S110592x1 ![0] bcast_S110592_S110592x1_0 : (⟨S110592, .f32⟩ : BufTy).Contents (Elt F) → (⟨S110592x1, .f32⟩ : BufTy).Contents (Elt F)),
    nullary main_cst_17 (constant S_ .f32 0xFF800000#32),
    unary main_cst_17 main_call8_v0 (id : (⟨S_, .f32⟩ : BufTy).Contents (Elt F) → (⟨S_, .f32⟩ : BufTy).Contents (Elt F)),
    unary main_v88 main_call8_v1 ((broadcastInDim S110592x16 ![0, 1] bcast_S110592x1_S110592x16_0_1) : (⟨S110592x1, .f32⟩ : BufTy).Contents (Elt F) → (⟨S110592x16, .f32⟩ : BufTy).Contents (Elt F)),
    unary main_call8_v0 main_call8_v2 ((broadcastInDim S110592x16 ![] bcast_S_S110592x16) : (⟨S_, .f32⟩ : BufTy).Contents (Elt F) → (⟨S110592x16, .f32⟩ : BufTy).Contents (Elt F)),
    ternary main_v87 main_call8_v1 main_call8_v2 main_v89 (select : (⟨S110592x16, .i1⟩ : BufTy).Contents (Elt F) → (⟨S110592x16, .f32⟩ : BufTy).Contents (Elt F) → (⟨S110592x16, .f32⟩ : BufTy).Contents (Elt F) → (⟨S110592x16, .f32⟩ : BufTy).Contents (Elt F)),
    nullary main_cst_18 (constant S_ .f32 0xFF800000#32),
    binary main_v89 main_cst_18 main_v90 ((fun x v => Host.reduce FloatOps.maximumf x v reducesTo_S110592x16_S16_d0 h_S_) : (⟨S110592x16, .f32⟩ : BufTy).Contents (Elt F) → (⟨S_, .f32⟩ : BufTy).Contents (Elt F) → (⟨S16, .f32⟩ : BufTy).Contents (Elt F)),
    unary main_v90 main_v91 (Host.absf : (⟨S16, .f32⟩ : BufTy).Contents (Elt F) → (⟨S16, .f32⟩ : BufTy).Contents (Elt F)),
    nullary main_cst_19 (constant S_ .f32 0x7F800000#32),
    unary main_cst_19 main_v92 (broadcastInDim S16 ![] bcast_S_S16 : (⟨S_, .f32⟩ : BufTy).Contents (Elt F) → (⟨S16, .f32⟩ : BufTy).Contents (Elt F)),
    binary main_v91 main_v92 main_v93 (cmpf .olt : (⟨S16, .f32⟩ : BufTy).Contents (Elt F) → (⟨S16, .f32⟩ : BufTy).Contents (Elt F) → (⟨S16, .i1⟩ : BufTy).Contents (Elt F)),
    nullary main_cst_20 (constant S_ .f32 0x00000000#32),
    unary main_cst_20 main_call9_v0 (id : (⟨S_, .f32⟩ : BufTy).Contents (Elt F) → (⟨S_, .f32⟩ : BufTy).Contents (Elt F)),
    unary main_call9_v0 main_call9_v1 ((broadcastInDim S16 ![] bcast_S_S16) : (⟨S_, .f32⟩ : BufTy).Contents (Elt F) → (⟨S16, .f32⟩ : BufTy).Contents (Elt F)),
    ternary main_v93 main_v90 main_call9_v1 main_v94 (select : (⟨S16, .i1⟩ : BufTy).Contents (Elt F) → (⟨S16, .f32⟩ : BufTy).Contents (Elt F) → (⟨S16, .f32⟩ : BufTy).Contents (Elt F) → (⟨S16, .f32⟩ : BufTy).Contents (Elt F)) ]

/-- What `ops1_2` writes, in order. -/
abbrev ops1_2_W : List (Ref sig .tc) := [main_v82, main_v83, main_v84, main_v85, main_v86, main_v87, main_v88, main_cst_17, main_call8_v0, main_call8_v1, main_call8_v2, main_v89, main_cst_18, main_v90, main_v91, main_cst_19, main_v92, main_v93, main_cst_20, main_call9_v0, main_call9_v1, main_v94]

theorem ops1_2_keep (V : Valuation τ sig (Elt F)) (r : Ref sig .tc) (h : r ∉ ops1_2_W) :
    after (ops1_2 (F := F)) V (no_index (Proc.devRef .tc r)) = V (Proc.devRef .tc r) := after_unwritten ops1_2_W rfl h V

theorem ops1_2_sub : (ops1_2 : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., nullary_bufs_sub .., unary_bufs_sub .., unary_bufs_sub .., unary_bufs_sub .., ternary_bufs_sub .., nullary_bufs_sub .., binary_bufs_sub .., unary_bufs_sub .., nullary_bufs_sub .., unary_bufs_sub .., binary_bufs_sub .., nullary_bufs_sub .., unary_bufs_sub .., unary_bufs_sub .., ternary_bufs_sub ..⟩

theorem ops1_2_fresh : (ops1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- Image 1: the class index as a gather takes it. -/
abbrev ops1_3 : List (HloOp τ sig (Elt F)) :=
  [ nullary main_c_21 (constantI S_ 32 0#32),
    unary main_c_21 main_v95 (broadcastInDim S110592 ![] bcast_S_S110592 : (⟨S_, .i32⟩ : BufTy).Contents (Elt F) → (⟨S110592, .i32⟩ : BufTy).Contents (Elt F)),
    binary main_v78 main_v95 main_v96 (cmpi .slt : (⟨S110592, .i32⟩ : BufTy).Contents (Elt F) → (⟨S110592, .i32⟩ : BufTy).Contents (Elt F) → (⟨S110592, .i1⟩ : BufTy).Contents (Elt F)),
    nullary main_c_22 (constantI S_ 32 16#32),
    unary main_c_22 main_v97 (broadcastInDim S110592 ![] bcast_S_S110592 : (⟨S_, .i32⟩ : BufTy).Contents (Elt F) → (⟨S110592, .i32⟩ : BufTy).Contents (Elt F)),
    binary main_v78 main_v97 main_v98 (addi : (⟨S110592, .i32⟩ : BufTy).Contents (Elt F) → (⟨S110592, .i32⟩ : BufTy).Contents (Elt F) → (⟨S110592, .i32⟩ : BufTy).Contents (Elt F)),
    ternary main_v96 main_v98 main_v78 main_v99 (select : (⟨S110592, .i1⟩ : BufTy).Contents (Elt F) → (⟨S110592, .i32⟩ : BufTy).Contents (Elt F) → (⟨S110592, .i32⟩ : BufTy).Contents (Elt F) → (⟨S110592, .i32⟩ : BufTy).Contents (Elt F)),
    unary main_v99 main_v100 (broadcastInDim S110592x1 ![0] bcast_S110592_S110592x1_0 : (⟨S110592, .i32⟩ : BufTy).Contents (Elt F) → (⟨S110592x1, .i32⟩ : BufTy).Contents (Elt F)) ]

/-- What `ops1_3` writes, in order. -/
abbrev ops1_3_W : List (Ref sig .tc) := [main_c_21, main_v95, main_v96, main_c_22, main_v97, main_v98, main_v99, main_v100]

theorem ops1_3_keep (V : Valuation τ sig (Elt F)) (r : Ref sig .tc) (h : r ∉ ops1_3_W) :
    after (ops1_3 (F := F)) V (no_index (Proc.devRef .tc r)) = V (Proc.devRef .tc r) := after_unwritten ops1_3_W rfl h V

theorem ops1_3_sub : (ops1_3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩

theorem ops1_3_fresh : (ops1_3 : List (HloOp τ sig (Elt F))).Forall fun op => op.fresh = ∅ :=
  ⟨rfl, rfl, rfl, rfl, rfl, rfl, rfl, rfl⟩

/-- Image 1: the exponentials. -/
abbrev ops1_4 : List (HloOp τ sig (Elt F)) :=
  [ binary main_v94 main_v100 main_v101 ((fun x i => Host.gather gather_S16_S110592x1_S110592_n_0_n_n_0_1_1 x i) : (⟨S16, .f32⟩ : BufTy).Contents (Elt F) → (⟨S110592x1, .i32⟩ : BufTy).Contents (Elt F) → (⟨S110592, .f32⟩ : BufTy).Contents (Elt F)),
    binary main_v81 main_v101 main_v102 (subf : (⟨S110592, .f32⟩ : BufTy).Contents (Elt F) → (⟨S110592, .f32⟩ : BufTy).Contents (Elt F) → (⟨S110592, .f32⟩ : BufTy).Contents (Elt F)),
    unary main_v102 main_v103 (Host.exp : (⟨S110592, .f32⟩ : BufTy).Contents (Elt F) → (⟨S110592, .f32⟩ : BufTy).Contents (Elt F)) ]

/-- What `ops1_4` writes, in order. -/
abbrev ops1_4_W : List (Ref sig .tc) := [main_v101, main_v102, main_v103]

theorem ops1_4_keep (V : Valuation τ sig (Elt F)) (r : Ref sig .tc) (h : r ∉ ops1_4_W) :
    after (ops1_4 (F := F)) V (no_index (Proc.devRef .tc r)) = V (Proc.devRef .tc r) := after_unwritten ops1_4_W rfl h V

theorem ops1_4_sub : (ops1_4 : List (HloOp τ sig (Elt F))).Forall fun op => op.bufs ⊆ tcRefs τ sig :=
  ⟨binary_bufs_sub .., binary_bufs_sub .., unary_bufs_sub ..⟩

theorem ops1_4_fresh : (ops1_4 : List (HloOp τ sig (Elt F))).Forall fun op => op.fresh = ∅ :=
  ⟨rfl, rfl, rfl⟩

/-- Image 1: their sum per class. -/
abbrev ops1_5 : List (HloOp τ sig (Elt F)) :=
  [ nullary main_cst_23 (constant S_ .f32 0x00000000#32),
    unary main_cst_23 main_v104 (broadcastInDim S16 ![] bcast_S_S16 : (⟨S_, .f32⟩ : BufTy).Contents (Elt F) → (⟨S16, .f32⟩ : BufTy).Contents (Elt F)),
    unary main_v78 main_v105 (broadcastInDim S110592x1 ![0] bcast_S110592_S110592x1_0 : (⟨S110592, .i32⟩ : BufTy).Contents (Elt F) → (⟨S110592x1, .i32⟩ : BufTy).Contents (Elt F)),
    ternary main_v104 main_v105 main_v103 main_v106 ((fun x i u => Host.scatterAdd scatter_S16_S110592x1_S110592_n_0_0_1 x i u) : (⟨S16, .f32⟩ : BufTy).Contents (Elt F) → (⟨S110592x1, .i32⟩ : BufTy).Contents (Elt F) → (⟨S110592, .f32⟩ : BufTy).Contents (Elt F) → (⟨S16, .f32⟩ : BufTy).Contents (Elt F)),
    nullary main_cst_24 (constant S_ .f32 0x00000000#32),
    unary main_cst_24 main_v107 (broadcastInDim S16 ![] bcast_S_S16 : (⟨S_, .f32⟩ : BufTy).Contents (Elt F) → (⟨S16, .f32⟩ : BufTy).Contents (Elt F)),
    binary main_v106 main_v107 main_v108 (cmpf .ogt : (⟨S16, .f32⟩ : BufTy).Contents (Elt F) → (⟨S16, .f32⟩ : BufTy).Contents (Elt F) → (⟨S16, .i1⟩ : BufTy).Contents (Elt F)),
    nullary main_cst_25 (constant S_ .f32 0x3F800000#32),
    unary main_cst_25 main_call10_v0 (id : (⟨S_, .f32⟩ : BufTy).Contents (Elt F) → (⟨S_, .f32⟩ : BufTy).Contents (Elt F)),
    unary main_call10_v0 main_call10_v1 ((broadcastInDim S16 ![] bcast_S_S16) : (⟨S_, .f32⟩ : BufTy).Contents (Elt F) → (⟨S16, .f32⟩ : BufTy).Contents (Elt F)),
    ternary main_v108 main_v106 main_call10_v1 main_v109 (select : (⟨S16, .i1⟩ : BufTy).Contents (Elt F) → (⟨S16, .f32⟩ : BufTy).Contents (Elt F) → (⟨S16, .f32⟩ : BufTy).Contents (Elt F) → (⟨S16, .f32⟩ : BufTy).Contents (Elt F)) ]

/-- What `ops1_5` writes, in order. -/
abbrev ops1_5_W : List (Ref sig .tc) := [main_cst_23, main_v104, main_v105, main_v106, main_cst_24, main_v107, main_v108, main_cst_25, main_call10_v0, main_call10_v1, main_v109]

theorem ops1_5_keep (V : Valuation τ sig (Elt F)) (r : Ref sig .tc) (h : r ∉ ops1_5_W) :
    after (ops1_5 (F := F)) V (no_index (Proc.devRef .tc r)) = V (Proc.devRef .tc r) := after_unwritten ops1_5_W rfl h V

theorem ops1_5_sub : (ops1_5 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., unary_bufs_sub .., ternary_bufs_sub ..⟩

theorem ops1_5_fresh : (ops1_5 : List (HloOp τ sig (Elt F))).Forall fun op => op.fresh = ∅ :=
  ⟨rfl, rfl, rfl, rfl, rfl, rfl, rfl, rfl, rfl, rfl, rfl⟩

/-- Image 1: the weighted features. -/
abbrev ops1_6 : List (HloOp τ sig (Elt F)) :=
  [ nullary main_c_26 (constantI S_ 32 0#32),
    unary main_c_26 main_v110 (broadcastInDim S110592 ![] bcast_S_S110592 : (⟨S_, .i32⟩ : BufTy).Contents (Elt F) → (⟨S110592, .i32⟩ : BufTy).Contents (Elt F)),
    binary main_v78 main_v110 main_v111 (cmpi .slt : (⟨S110592, .i32⟩ : BufTy).Contents (Elt F) → (⟨S110592, .i32⟩ : BufTy).Contents (Elt F) → (⟨S110592, .i1⟩ : BufTy).Contents (Elt F)),
    nullary main_c_27 (constantI S_ 32 16#32),
    unary main_c_27 main_v112 (broadcastInDim S110592 ![] bcast_S_S110592 : (⟨S_, .i32⟩ : BufTy).Contents (Elt F) → (⟨S110592, .i32⟩ : BufTy).Contents (Elt F)),
    binary main_v78 main_v112 main_v113 (addi : (⟨S110592, .i32⟩ : BufTy).Contents (Elt F) → (⟨S110592, .i32⟩ : BufTy).Contents (Elt F) → (⟨S110592, .i32⟩ : BufTy).Contents (Elt F)),
    ternary main_v111 main_v113 main_v78 main_v114 (select : (⟨S110592, .i1⟩ : BufTy).Contents (Elt F) → (⟨S110592, .i32⟩ : BufTy).Contents (Elt F) → (⟨S110592, .i32⟩ : BufTy).Contents (Elt F) → (⟨S110592, .i32⟩ : BufTy).Contents (Elt F)),
    unary main_v114 main_v115 (broadcastInDim S110592x1 ![0] bcast_S110592_S110592x1_0 : (⟨S110592, .i32⟩ : BufTy).Contents (Elt F) → (⟨S110592x1, .i32⟩ : BufTy).Contents (Elt F)),
    binary main_v109 main_v115 main_v116 ((fun x i => Host.gather gather_S16_S110592x1_S110592_n_0_n_n_0_1_1 x i) : (⟨S16, .f32⟩ : BufTy).Contents (Elt F) → (⟨S110592x1, .i32⟩ : BufTy).Contents (Elt F) → (⟨S110592, .f32⟩ : BufTy).Contents (Elt F)),
    binary main_v103 main_v116 main_v117 (Host.divf : (⟨S110592, .f32⟩ : BufTy).Contents (Elt F) → (⟨S110592, .f32⟩ : BufTy).Contents (Elt F) → (⟨S110592, .f32⟩ : BufTy).Contents (Elt F)),
    unary main_v117 main_v118 (broadcastInDim S110592x1 ![0] bcast_S110592_S110592x1_0 : (⟨S110592, .f32⟩ : BufTy).Contents (Elt F) → (⟨S110592x1, .f32⟩ : BufTy).Contents (Elt F)),
    unary main_v118 main_v119 (broadcastInDim S110592x64 ![0, 1] bcast_S110592x1_S110592x64_0_1 : (⟨S110592x1, .f32⟩ : BufTy).Contents (Elt F) → (⟨S110592x64, .f32⟩ : BufTy).Contents (Elt F)),
    binary main_v75 main_v119 main_v120 (mulf : (⟨S110592x64, .f32⟩ : BufTy).Contents (Elt F) → (⟨S110592x64, .f32⟩ : BufTy).Contents (Elt F) → (⟨S110592x64, .f32⟩ : BufTy).Contents (Elt F)),
    nullary main_cst_28 (constant S_ .f32 0x00000000#32) ]

/-- What `ops1_6` writes, in order. -/
abbrev ops1_6_W : List (Ref sig .tc) := [main_c_26, main_v110, main_v111, main_c_27, main_v112, main_v113, main_v114, main_v115, main_v116, main_v117, main_v118, main_v119, main_v120, main_cst_28]

theorem ops1_6_keep (V : Valuation τ sig (Elt F)) (r : Ref sig .tc) (h : r ∉ ops1_6_W) :
    after (ops1_6 (F := F)) V (no_index (Proc.devRef .tc r)) = V (Proc.devRef .tc r) := after_unwritten ops1_6_W rfl h V

theorem ops1_6_sub : (ops1_6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub ..⟩

theorem ops1_6_fresh : (ops1_6 : List (HloOp τ sig (Elt F))).Forall fun op => op.fresh = ∅ :=
  ⟨rfl, rfl, rfl, rfl, rfl, rfl, rfl, rfl, rfl, rfl, rfl, rfl, rfl, rfl⟩

/-- Image 1: their sum per class. -/
abbrev ops1_7 : List (HloOp τ sig (Elt F)) :=
  [ unary main_cst_28 main_v121 (broadcastInDim S16x64 ![] bcast_S_S16x64 : (⟨S_, .f32⟩ : BufTy).Contents (Elt F) → (⟨S16x64, .f32⟩ : BufTy).Contents (Elt F)),
    unary main_v78 main_v122 (broadcastInDim S110592x1 ![0] bcast_S110592_S110592x1_0 : (⟨S110592, .i32⟩ : BufTy).Contents (Elt F) → (⟨S110592x1, .i32⟩ : BufTy).Contents (Elt F)),
    ternary main_v121 main_v122 main_v120 main_v123 ((fun x i u => Host.scatterAdd scatter_S16x64_S110592x1_S110592x64_1_0_0_1 x i u) : (⟨S16x64, .f32⟩ : BufTy).Contents (Elt F) → (⟨S110592x1, .i32⟩ : BufTy).Contents (Elt F) → (⟨S110592x64, .f32⟩ : BufTy).Contents (Elt F) → (⟨S16x64, .f32⟩ : BufTy).Contents (Elt F)) ]

/-- What `ops1_7` writes, in order. -/
abbrev ops1_7_W : List (Ref sig .tc) := [main_v121, main_v122, main_v123]

theorem ops1_7_keep (V : Valuation τ sig (Elt F)) (r : Ref sig .tc) (h : r ∉ ops1_7_W) :
    after (ops1_7 (F := F)) V (no_index (Proc.devRef .tc r)) = V (Proc.devRef .tc r) := after_unwritten ops1_7_W rfl h V

theorem ops1_7_sub : (ops1_7 : List (HloOp τ sig (Elt F))).Forall fun op => op.bufs ⊆ tcRefs τ sig :=
  ⟨unary_bufs_sub .., unary_bufs_sub .., ternary_bufs_sub ..⟩

theorem ops1_7_fresh : (ops1_7 : List (HloOp τ sig (Elt F))).Forall fun op => op.fresh = ∅ :=
  ⟨rfl, rfl, rfl⟩

/-- Image 1: the prototypes. -/
abbrev ops1_8 : List (HloOp τ sig (Elt F)) :=
  [ nullary main_cst_29 (constant S_ .f32 0x3F800000#32),
    unary main_cst_29 main_v124 (broadcastInDim S110592 ![] bcast_S_S110592 : (⟨S_, .f32⟩ : BufTy).Contents (Elt F) → (⟨S110592, .f32⟩ : BufTy).Contents (Elt F)),
    nullary main_cst_30 (constant S_ .f32 0x00000000#32),
    unary main_cst_30 main_v125 (broadcastInDim S16 ![] bcast_S_S16 : (⟨S_, .f32⟩ : BufTy).Contents (Elt F) → (⟨S16, .f32⟩ : BufTy).Contents (Elt F)),
    unary main_v78 main_v126 (broadcastInDim S110592x1 ![0] bcast_S110592_S110592x1_0 : (⟨S110592, .i32⟩ : BufTy).Contents (Elt F) → (⟨S110592x1, .i32⟩ : BufTy).Contents (Elt F)),
    ternary main_v125 main_v126 main_v124 main_v127 ((fun x i u => Host.scatterAdd scatter_S16_S110592x1_S110592_n_0_0_1 x i u) : (⟨S16, .f32⟩ : BufTy).Contents (Elt F) → (⟨S110592x1, .i32⟩ : BufTy).Contents (Elt F) → (⟨S110592, .f32⟩ : BufTy).Contents (Elt F) → (⟨S16, .f32⟩ : BufTy).Contents (Elt F)),
    unary main_v127 main_v128 (broadcastInDim S16x1 ![0] bcast_S16_S16x1_0 : (⟨S16, .f32⟩ : BufTy).Contents (Elt F) → (⟨S16x1, .f32⟩ : BufTy).Contents (Elt F)),
    nullary main_cst_31 (constant S_ .f32 0x00000000#32),
    unary main_cst_31 main_v129 (broadcastInDim S16x1 ![] bcast_S_S16x1 : (⟨S_, .f32⟩ : BufTy).Contents (Elt F) → (⟨S16x1, .f32⟩ : BufTy).Contents (Elt F)),
    binary main_v128 main_v129 main_v130 (cmpf .ogt : (⟨S16x1, .f32⟩ : BufTy).Contents (Elt F) → (⟨S16x1, .f32⟩ : BufTy).Contents (Elt F) → (⟨S16x1, .i1⟩ : BufTy).Contents (Elt F)),
    nullary main_cst_32 (constant S_ .f32 0x3F800000#32),
    unary main_cst_32 main_v131 (broadcastInDim S16 ![] bcast_S_S16 : (⟨S_, .f32⟩ : BufTy).Contents (Elt F) → (⟨S16, .f32⟩ : BufTy).Contents (Elt F)),
    binary main_v127 main_v131 main_v132 (maximumf : (⟨S16, .f32⟩ : BufTy).Contents (Elt F) → (⟨S16, .f32⟩ : BufTy).Contents (Elt F) → (⟨S16, .f32⟩ : BufTy).Contents (Elt F)),
    unary main_v132 main_v133 (broadcastInDim S16x1 ![0] bcast_S16_S16x1_0 : (⟨S16, .f32⟩ : BufTy).Contents (Elt F) → (⟨S16x1, .f32⟩ : BufTy).Contents (Elt F)),
    unary main_v133 main_v134 (broadcastInDim S16x64 ![0, 1] bcast_S16x1_S16x64_0_1 : (⟨S16x1, .f32⟩ : BufTy).Contents (Elt F) → (⟨S16x64, .f32⟩ : BufTy).Contents (Elt F)),
    binary main_v123 main_v134 main_v135 (Host.divf : (⟨S16x64, .f32⟩ : BufTy).Contents (Elt F) → (⟨S16x64, .f32⟩ : BufTy).Contents (Elt F) → (⟨S16x64, .f32⟩ : BufTy).Contents (Elt F)),
    nullary main_cst_33 (constant S_ .f32 0x00000000#32),
    unary main_cst_33 main_call11_v0 (id : (⟨S_, .f32⟩ : BufTy).Contents (Elt F) → (⟨S_, .f32⟩ : BufTy).Contents (Elt F)),
    unary main_v130 main_call11_v1 ((broadcastInDim S16x64 ![0, 1] bcast_S16x1_S16x64_0_1) : (⟨S16x1, .i1⟩ : BufTy).Contents (Elt F) → (⟨S16x64, .i1⟩ : BufTy).Contents (Elt F)),
    unary main_call11_v0 main_call11_v2 ((broadcastInDim S16x64 ![] bcast_S_S16x64) : (⟨S_, .f32⟩ : BufTy).Contents (Elt F) → (⟨S16x64, .f32⟩ : BufTy).Contents (Elt F)),
    ternary main_call11_v1 main_v135 main_call11_v2 main_v136 (select : (⟨S16x64, .i1⟩ : BufTy).Contents (Elt F) → (⟨S16x64, .f32⟩ : BufTy).Contents (Elt F) → (⟨S16x64, .f32⟩ : BufTy).Contents (Elt F) → (⟨S16x64, .f32⟩ : BufTy).Contents (Elt F)) ]

/-- What `ops1_8` writes, in order. -/
abbrev ops1_8_W : List (Ref sig .tc) := [main_cst_29, main_v124, main_cst_30, main_v125, main_v126, main_v127, main_v128, main_cst_31, main_v129, main_v130, main_cst_32, main_v131, main_v132, main_v133, main_v134, main_v135, main_cst_33, main_call11_v0, main_call11_v1, main_call11_v2, main_v136]

theorem ops1_8_keep (V : Valuation τ sig (Elt F)) (r : Ref sig .tc) (h : r ∉ ops1_8_W) :
    after (ops1_8 (F := F)) V (no_index (Proc.devRef .tc r)) = V (Proc.devRef .tc r) := after_unwritten ops1_8_W rfl h V

theorem ops1_8_sub : (ops1_8 : List (HloOp τ sig (Elt F))).Forall fun op => op.bufs ⊆ tcRefs τ sig :=
  ⟨nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub ..⟩

theorem ops1_8_fresh : (ops1_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- Image 1: the prototypes read back per voxel. -/
abbrev ops1_9 : List (HloOp τ sig (Elt F)) :=
  [ nullary main_c_34 (constantI S_ 32 0#32),
    unary main_c_34 main_v137 (broadcastInDim S110592 ![] bcast_S_S110592 : (⟨S_, .i32⟩ : BufTy).Contents (Elt F) → (⟨S110592, .i32⟩ : BufTy).Contents (Elt F)),
    binary main_v78 main_v137 main_v138 (cmpi .slt : (⟨S110592, .i32⟩ : BufTy).Contents (Elt F) → (⟨S110592, .i32⟩ : BufTy).Contents (Elt F) → (⟨S110592, .i1⟩ : BufTy).Contents (Elt F)),
    nullary main_c_35 (constantI S_ 32 16#32),
    unary main_c_35 main_v139 (broadcastInDim S110592 ![] bcast_S_S110592 : (⟨S_, .i32⟩ : BufTy).Contents (Elt F) → (⟨S110592, .i32⟩ : BufTy).Contents (Elt F)),
    binary main_v78 main_v139 main_v140 (addi : (⟨S110592, .i32⟩ : BufTy).Contents (Elt F) → (⟨S110592, .i32⟩ : BufTy).Contents (Elt F) → (⟨S110592, .i32⟩ : BufTy).Contents (Elt F)),
    ternary main_v138 main_v140 main_v78 main_v141 (select : (⟨S110592, .i1⟩ : BufTy).Contents (Elt F) → (⟨S110592, .i32⟩ : BufTy).Contents (Elt F) → (⟨S110592, .i32⟩ : BufTy).Contents (Elt F) → (⟨S110592, .i32⟩ : BufTy).Contents (Elt F)),
    unary main_v141 main_v142 (broadcastInDim S110592x1 ![0] bcast_S110592_S110592x1_0 : (⟨S110592, .i32⟩ : BufTy).Contents (Elt F) → (⟨S110592x1, .i32⟩ : BufTy).Contents (Elt F)),
    binary main_v136 main_v142 main_v143 ((fun x i => Host.gather gather_S16x64_S110592x1_S110592x64_1_0_n_n_0_1_164 x i) : (⟨S16x64, .f32⟩ : BufTy).Contents (Elt F) → (⟨S110592x1, .i32⟩ : BufTy).Contents (Elt F) → (⟨S110592x64, .f32⟩ : BufTy).Contents (Elt F)) ]

/-- What `ops1_9` writes, in order. -/
abbrev ops1_9_W : List (Ref sig .tc) := [main_c_34, main_v137, main_v138, main_c_35, main_v139, main_v140, main_v141, main_v142, main_v143]

theorem ops1_9_keep (V : Valuation τ sig (Elt F)) (r : Ref sig .tc) (h : r ∉ ops1_9_W) :
    after (ops1_9 (F := F)) V (no_index (Proc.devRef .tc r)) = V (Proc.devRef .tc r) := after_unwritten ops1_9_W rfl h V

theorem ops1_9_sub : (ops1_9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem ops1_9_fresh : (ops1_9 : List (HloOp τ sig (Elt F))).Forall fun op => op.fresh = ∅ :=
  ⟨rfl, rfl, rfl, rfl, rfl, rfl, rfl, rfl, rfl⟩

/-- The two images put together again. -/
abbrev opsY : List (HloOp τ sig (Elt F)) :=
  [ unary main_v73 main_v144 (broadcastInDim S1x110592x64 ![1, 2] bcast_S110592x64_S1x110592x64_1_2 : (⟨S110592x64, .f32⟩ : BufTy).Contents (Elt F) → (⟨S1x110592x64, .f32⟩ : BufTy).Contents (Elt F)),
    unary main_v143 main_v145 (broadcastInDim S1x110592x64 ![1, 2] bcast_S110592x64_S1x110592x64_1_2 : (⟨S110592x64, .f32⟩ : BufTy).Contents (Elt F) → (⟨S1x110592x64, .f32⟩ : BufTy).Contents (Elt F)),
    binary main_v144 main_v145 main_v146 ((fun a b => concatenate S2x110592x64 0 [⟨S1x110592x64, a⟩, ⟨S1x110592x64, b⟩] concatenates_S1x110592x64_S1x110592x64_S2x110592x64_d0) : (⟨S1x110592x64, .f32⟩ : BufTy).Contents (Elt F) → (⟨S1x110592x64, .f32⟩ : BufTy).Contents (Elt F) → (⟨S2x110592x64, .f32⟩ : BufTy).Contents (Elt F)),
    reshape main_v146 main_v147 (rfl : (.f32 : EltTy) = .f32) shapeCasts_S2x110592x64_S2x48x48x48x64 ]

/-- What `opsY` writes, in order. -/
abbrev opsY_W : List (Ref sig .tc) := [main_v144, main_v145, main_v146, main_v147]

theorem opsY_keep (V : Valuation τ sig (Elt F)) (r : Ref sig .tc) (h : r ∉ opsY_W) :
    after (opsY (F := F)) V (no_index (Proc.devRef .tc r)) = V (Proc.devRef .tc r) := after_unwritten opsY_W rfl h V

theorem opsY_sub : (opsY : List (HloOp τ sig (Elt F))).Forall fun op => op.bufs ⊆ tcRefs τ sig :=
  ⟨unary_bufs_sub .., unary_bufs_sub .., binary_bufs_sub .., reshape_bufs_sub ..⟩

theorem opsY_fresh : (opsY : List (HloOp τ sig (Elt F))).Forall fun op => op.fresh = ∅ :=
  ⟨rfl, rfl, rfl, rfl⟩

/-- The last transpose and the product with the features. -/
abbrev opsZ : List (HloOp τ sig (Elt F)) :=
  [ unary main_v147 main_v148 ((transpose S2x64x48x48x48 [0, 4, 1, 2, 3] · transposes_S2x48x48x48x64_S2x64x48x48x48_0_4_1_2_3) : (⟨S2x48x48x48x64, .f32⟩ : BufTy).Contents (Elt F) → (⟨S2x64x48x48x48, .f32⟩ : BufTy).Contents (Elt F)),
    binary main_arg0 main_v148 main_v149 (mulf : (⟨S2x64x48x48x48, .f32⟩ : BufTy).Contents (Elt F) → (⟨S2x64x48x48x48, .f32⟩ : BufTy).Contents (Elt F) → (⟨S2x64x48x48x48, .f32⟩ : BufTy).Contents (Elt F)) ]

/-- What `opsZ` writes, in order. -/
abbrev opsZ_W : List (Ref sig .tc) := [main_v148, main_v149]

theorem opsZ_keep (V : Valuation τ sig (Elt F)) (r : Ref sig .tc) (h : r ∉ opsZ_W) :
    after (opsZ (F := F)) V (no_index (Proc.devRef .tc r)) = V (Proc.devRef .tc r) := after_unwritten opsZ_W rfl h V

theorem opsZ_sub : (opsZ : List (HloOp τ sig (Elt F))).Forall fun op => op.bufs ⊆ tcRefs τ sig :=
  ⟨unary_bufs_sub .., binary_bufs_sub ..⟩

theorem opsZ_fresh : (opsZ : List (HloOp τ sig (Elt F))).Forall fun op => op.fresh = ∅ :=
  ⟨rfl, rfl⟩

end Cert.ReferenceIdeal.Hand

end
-- ==== Proof.RefRun.lean ====
/- What the reference leaves behind: each list of operations read at the buffers that later steps use, one image after
   the other, and the run as a whole. -/
module

public import proofs.«01_k».proof.Proof.RefOps
public import Idealize.ShloMosaic.Lib.Quiescent

@[expose] public section

set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem opsA_main_v1 (V : Valuation τ sig (Elt F)) :
    after (opsA (F := F)) V (no_index (Proc.devRef .tc main_v1)) = featT (V (Proc.devRef .tc main_arg0)) := by
  simp only [opsA]
  after_results_simp
  rfl

theorem opsA_main_v3 (V : Valuation τ sig (Elt F)) :
    after (opsA (F := F)) V (no_index (Proc.devRef .tc main_v3)) = predT (V (Proc.devRef .tc main_arg1)) := by
  simp only [opsA]
  after_results_simp
  rfl

theorem ops0_0_main_v5 (V : Valuation τ sig (Elt F)) :
    after (ops0_0 (F := F)) V (no_index (Proc.devRef .tc main_v5)) = feat0 (V (Proc.devRef .tc main_v1)) := by
  simp only [ops0_0]
  after_results_simp
  rfl

theorem ops0_0_main_v7 (V : Valuation τ sig (Elt F)) :
    after (ops0_0 (F := F)) V (no_index (Proc.devRef .tc main_v7)) = pred0 (V (Proc.devRef .tc main_v3)) := by
  simp only [ops0_0]
  after_results_simp
  rfl

theorem ops0_0_main_v8 (V : Valuation τ sig (Elt F)) :
    after (ops0_0 (F := F)) V (no_index (Proc.devRef .tc main_v8)) = segOf (pred0 (V (Proc.devRef .tc main_v3))) := by
  simp only [ops0_0]
  after_results_simp
  rfl

theorem ops0_1_main_v11 (V : Valuation τ sig (Elt F)) :
    after (ops0_1 (F := F)) V (no_index (Proc.devRef .tc main_v11)) = scoreOf (V (Proc.devRef .tc main_v7)) (V (Proc.devRef .tc main_v8)) := by
  simp only [ops0_1]
  after_results_simp
  rfl

theorem ops0_2_main_v24 (V : Valuation τ sig (Elt F)) :
    after (ops0_2 (F := F)) V (no_index (Proc.devRef .tc main_v24)) = safeMax (V (Proc.devRef .tc main_v8)) (V (Proc.devRef .tc main_v11)) := by
  simp only [ops0_2]
  after_results_simp
  rfl

theorem ops0_3_main_v30 (V : Valuation τ sig (Elt F)) :
    after (ops0_3 (F := F)) V (no_index (Proc.devRef .tc main_v30)) = rowIdx (F := F) (V (Proc.devRef .tc main_v8)) := by
  simp only [ops0_3]
  after_results_simp
  rfl

theorem ops0_4_main_v33 (V : Valuation τ sig (Elt F)) :
    after (ops0_4 (F := F)) V (no_index (Proc.devRef .tc main_v33)) = expOf (V (Proc.devRef .tc main_v11)) (V (Proc.devRef .tc main_v24)) (V (Proc.devRef .tc main_v30)) := by
  simp only [ops0_4]
  after_results_simp
  rfl

theorem ops0_5_main_v39 (V : Valuation τ sig (Elt F)) :
    after (ops0_5 (F := F)) V (no_index (Proc.devRef .tc main_v39)) = safeDen (V (Proc.devRef .tc main_v8)) (V (Proc.devRef .tc main_v33)) := by
  simp only [ops0_5]
  after_results_simp
  rfl

theorem ops0_6_main_v50 (V : Valuation τ sig (Elt F)) :
    after (ops0_6 (F := F)) V (no_index (Proc.devRef .tc main_v50)) = weighted (V (Proc.devRef .tc main_v5)) (V (Proc.devRef .tc main_v33)) (V (Proc.devRef .tc main_v39)) (V (Proc.devRef .tc main_v8)) := by
  simp only [ops0_6]
  after_results_simp
  rfl

theorem ops0_6_main_cst_9 (V : Valuation τ sig (Elt F)) :
    after (ops0_6 (F := F)) V (no_index (Proc.devRef .tc main_cst_9)) = constant S_ .f32 0x00000000#32 := by
  simp only [ops0_6]
  after_results_simp

theorem ops0_7_main_v53 (V : Valuation τ sig (Elt F)) :
    after (ops0_7 (F := F)) V (no_index (Proc.devRef .tc main_v53)) = sumRows (V (Proc.devRef .tc main_cst_9)) (V (Proc.devRef .tc main_v8)) (V (Proc.devRef .tc main_v50)) := by
  simp only [ops0_7]
  after_results_simp
  rfl

theorem ops0_8_main_v66 (V : Valuation τ sig (Elt F)) :
    after (ops0_8 (F := F)) V (no_index (Proc.devRef .tc main_v66)) = protos (V (Proc.devRef .tc main_v53)) (V (Proc.devRef .tc main_v8)) := by
  simp only [ops0_8]
  after_results_simp
  rfl

theorem ops0_9_main_v73 (V : Valuation τ sig (Elt F)) :
    after (ops0_9 (F := F)) V (no_index (Proc.devRef .tc main_v73)) = backOf (V (Proc.devRef .tc main_v66)) (V (Proc.devRef .tc main_v8)) := by
  simp only [ops0_9]
  after_results_simp
  rfl

/-- Image 0's operations. -/
def img0 : List (HloOp τ sig (Elt F)) :=
  ops0_0 ++ (ops0_1 ++ (ops0_2 ++ (ops0_3 ++ (ops0_4 ++ (ops0_5 ++ (ops0_6 ++ (ops0_7 ++ (ops0_8 ++ (ops0_9)))))))))

/-- Image 0's operations leave its prototypes, voxel by voxel. -/
theorem img0_out (V : Valuation τ sig (Elt F)) :
    after (img0 (F := F)) V (no_index (Proc.devRef .tc main_v73)) = pam (feat0 (V (Proc.devRef .tc main_v1))) (pred0 (V (Proc.devRef .tc main_v3))) := by
  unfold img0 pam expsOf
  simp only [after_append]
  simp (disch := decide) only [ops0_0_main_v5, ops0_0_main_v7, ops0_0_main_v8, ops0_1_main_v11, ops0_2_main_v24, ops0_3_main_v30, ops0_4_main_v33, ops0_5_main_v39, ops0_6_main_v50, ops0_6_main_cst_9, ops0_7_main_v53, ops0_8_main_v66, ops0_9_main_v73,
    ops0_0_keep, ops0_1_keep, ops0_2_keep, ops0_3_keep, ops0_4_keep, ops0_5_keep, ops0_6_keep, ops0_7_keep, ops0_8_keep, ops0_9_keep]

/-- The references that image 0's operations write. -/
abbrev img0_W : List (Ref sig .tc) :=
  ops0_0_W ++ (ops0_1_W ++ (ops0_2_W ++ (ops0_3_W ++ (ops0_4_W ++ (ops0_5_W ++ (ops0_6_W ++ (ops0_7_W ++ (ops0_8_W ++ (ops0_9_W)))))))))

theorem img0_keep (V : Valuation τ sig (Elt F)) (r : Ref sig .tc) (h : r ∉ img0_W) :
    after (img0 (F := F)) V (no_index (Proc.devRef .tc r)) = V (Proc.devRef .tc r) := by
  simp only [img0_W, List.mem_append, not_or] at h
  obtain ⟨h0, h1, h2, h3, h4, h5, h6, h7, h8, h9⟩ := h
  unfold img0
  simp only [after_append]
  rw [ops0_9_keep _ _ h9, ops0_8_keep _ _ h8, ops0_7_keep _ _ h7, ops0_6_keep _ _ h6, ops0_5_keep _ _ h5, ops0_4_keep _ _ h4, ops0_3_keep _ _ h3, ops0_2_keep _ _ h2, ops0_1_keep _ _ h1, ops0_0_keep _ _ h0]

theorem ops1_0_main_v75 (V : Valuation τ sig (Elt F)) :
    after (ops1_0 (F := F)) V (no_index (Proc.devRef .tc main_v75)) = feat1 (V (Proc.devRef .tc main_v1)) := by
  simp only [ops1_0]
  after_results_simp
  rfl

theorem ops1_0_main_v77 (V : Valuation τ sig (Elt F)) :
    after (ops1_0 (F := F)) V (no_index (Proc.devRef .tc main_v77)) = pred1 (V (Proc.devRef .tc main_v3)) := by
  simp only [ops1_0]
  after_results_simp
  rfl

theorem ops1_0_main_v78 (V : Valuation τ sig (Elt F)) :
    after (ops1_0 (F := F)) V (no_index (Proc.devRef .tc main_v78)) = segOf (pred1 (V (Proc.devRef .tc main_v3))) := by
  simp only [ops1_0]
  after_results_simp
  rfl

theorem ops1_1_main_v81 (V : Valuation τ sig (Elt F)) :
    after (ops1_1 (F := F)) V (no_index (Proc.devRef .tc main_v81)) = scoreOf (V (Proc.devRef .tc main_v77)) (V (Proc.devRef .tc main_v78)) := by
  simp only [ops1_1]
  after_results_simp
  rfl

theorem ops1_2_main_v94 (V : Valuation τ sig (Elt F)) :
    after (ops1_2 (F := F)) V (no_index (Proc.devRef .tc main_v94)) = safeMax (V (Proc.devRef .tc main_v78)) (V (Proc.devRef .tc main_v81)) := by
  simp only [ops1_2]
  after_results_simp
  rfl

theorem ops1_3_main_v100 (V : Valuation τ sig (Elt F)) :
    after (ops1_3 (F := F)) V (no_index (Proc.devRef .tc main_v100)) = rowIdx (F := F) (V (Proc.devRef .tc main_v78)) := by
  simp only [ops1_3]
  after_results_simp
  rfl

theorem ops1_4_main_v103 (V : Valuation τ sig (Elt F)) :
    after (ops1_4 (F := F)) V (no_index (Proc.devRef .tc main_v103)) = expOf (V (Proc.devRef .tc main_v81)) (V (Proc.devRef .tc main_v94)) (V (Proc.devRef .tc main_v100)) := by
  simp only [ops1_4]
  after_results_simp
  rfl

theorem ops1_5_main_v109 (V : Valuation τ sig (Elt F)) :
    after (ops1_5 (F := F)) V (no_index (Proc.devRef .tc main_v109)) = safeDen (V (Proc.devRef .tc main_v78)) (V (Proc.devRef .tc main_v103)) := by
  simp only [ops1_5]
  after_results_simp
  rfl

theorem ops1_6_main_v120 (V : Valuation τ sig (Elt F)) :
    after (ops1_6 (F := F)) V (no_index (Proc.devRef .tc main_v120)) = weighted (V (Proc.devRef .tc main_v75)) (V (Proc.devRef .tc main_v103)) (V (Proc.devRef .tc main_v109)) (V (Proc.devRef .tc main_v78)) := by
  simp only [ops1_6]
  after_results_simp
  rfl

theorem ops1_6_main_cst_28 (V : Valuation τ sig (Elt F)) :
    after (ops1_6 (F := F)) V (no_index (Proc.devRef .tc main_cst_28)) = constant S_ .f32 0x00000000#32 := by
  simp only [ops1_6]
  after_results_simp

theorem ops1_7_main_v123 (V : Valuation τ sig (Elt F)) :
    after (ops1_7 (F := F)) V (no_index (Proc.devRef .tc main_v123)) = sumRows (V (Proc.devRef .tc main_cst_28)) (V (Proc.devRef .tc main_v78)) (V (Proc.devRef .tc main_v120)) := by
  simp only [ops1_7]
  after_results_simp
  rfl

theorem ops1_8_main_v136 (V : Valuation τ sig (Elt F)) :
    after (ops1_8 (F := F)) V (no_index (Proc.devRef .tc main_v136)) = protos (V (Proc.devRef .tc main_v123)) (V (Proc.devRef .tc main_v78)) := by
  simp only [ops1_8]
  after_results_simp
  rfl

theorem ops1_9_main_v143 (V : Valuation τ sig (Elt F)) :
    after (ops1_9 (F := F)) V (no_index (Proc.devRef .tc main_v143)) = backOf (V (Proc.devRef .tc main_v136)) (V (Proc.devRef .tc main_v78)) := by
  simp only [ops1_9]
  after_results_simp
  rfl

/-- Image 1's operations. -/
def img1 : List (HloOp τ sig (Elt F)) :=
  ops1_0 ++ (ops1_1 ++ (ops1_2 ++ (ops1_3 ++ (ops1_4 ++ (ops1_5 ++ (ops1_6 ++ (ops1_7 ++ (ops1_8 ++ (ops1_9)))))))))

/-- Image 1's operations leave its prototypes, voxel by voxel. -/
theorem img1_out (V : Valuation τ sig (Elt F)) :
    after (img1 (F := F)) V (no_index (Proc.devRef .tc main_v143)) = pam (feat1 (V (Proc.devRef .tc main_v1))) (pred1 (V (Proc.devRef .tc main_v3))) := by
  unfold img1 pam expsOf
  simp only [after_append]
  simp (disch := decide) only [ops1_0_main_v75, ops1_0_main_v77, ops1_0_main_v78, ops1_1_main_v81, ops1_2_main_v94, ops1_3_main_v100, ops1_4_main_v103, ops1_5_main_v109, ops1_6_main_v120, ops1_6_main_cst_28, ops1_7_main_v123, ops1_8_main_v136, ops1_9_main_v143,
    ops1_0_keep, ops1_1_keep, ops1_2_keep, ops1_3_keep, ops1_4_keep, ops1_5_keep, ops1_6_keep, ops1_7_keep, ops1_8_keep, ops1_9_keep]

/-- The references that image 1's operations write. -/
abbrev img1_W : List (Ref sig .tc) :=
  ops1_0_W ++ (ops1_1_W ++ (ops1_2_W ++ (ops1_3_W ++ (ops1_4_W ++ (ops1_5_W ++ (ops1_6_W ++ (ops1_7_W ++ (ops1_8_W ++ (ops1_9_W)))))))))

theorem img1_keep (V : Valuation τ sig (Elt F)) (r : Ref sig .tc) (h : r ∉ img1_W) :
    after (img1 (F := F)) V (no_index (Proc.devRef .tc r)) = V (Proc.devRef .tc r) := by
  simp only [img1_W, List.mem_append, not_or] at h
  obtain ⟨h0, h1, h2, h3, h4, h5, h6, h7, h8, h9⟩ := h
  unfold img1
  simp only [after_append]
  rw [ops1_9_keep _ _ h9, ops1_8_keep _ _ h8, ops1_7_keep _ _ h7, ops1_6_keep _ _ h6, ops1_5_keep _ _ h5, ops1_4_keep _ _ h4, ops1_3_keep _ _ h3, ops1_2_keep _ _ h2, ops1_1_keep _ _ h1, ops1_0_keep _ _ h0]

theorem opsY_main_v147 (V : Valuation τ sig (Elt F)) :
    after (opsY (F := F)) V (no_index (Proc.devRef .tc main_v147)) = shapeCast S2x48x48x48x64 (stacked (V (Proc.devRef .tc main_v73)) (V (Proc.devRef .tc main_v143))) shapeCasts_S2x110592x64_S2x48x48x48x64 := by
  simp only [opsY]
  after_results_simp
  rfl

theorem opsZ_main_v149 (V : Valuation τ sig (Elt F)) :
    after (opsZ (F := F)) V (no_index (Proc.devRef .tc main_v149)) = mulf (V (Proc.devRef .tc main_arg0)) (transpose S2x64x48x48x48 [0, 4, 1, 2, 3] (V (Proc.devRef .tc main_v147)) transposes_S2x48x48x48x64_S2x64x48x48x48_0_4_1_2_3) := by
  simp only [opsZ]
  after_results_simp

/-- The whole of the reference. -/
def ops : List (HloOp τ sig (Elt F)) := opsA ++ (img0 ++ (img1 ++ (opsY ++ opsZ)))

theorem ops_out (V : Valuation τ sig (Elt F)) :
    after (ops (F := F)) V (no_index (Proc.devRef .tc main_v149)) = refResult (V (Proc.devRef .tc main_arg0)) (V (Proc.devRef .tc main_arg1)) := by
  unfold ops refResult
  simp only [after_append]
  simp (disch := decide) only [opsZ_main_v149, opsY_main_v147, img1_out, img0_out, opsA_main_v1, opsA_main_v3,
    opsA_keep, img0_keep, img1_keep, opsY_keep, opsZ_keep]

theorem ops_arg0 (V : Valuation τ sig (Elt F)) :
    after (ops (F := F)) V (no_index (Proc.devRef .tc main_arg0)) = V (Proc.devRef .tc main_arg0) := by
  unfold ops
  simp only [after_append]
  simp (disch := decide) only [opsA_keep, img0_keep, img1_keep, opsY_keep, opsZ_keep]

theorem ops_arg1 (V : Valuation τ sig (Elt F)) :
    after (ops (F := F)) V (no_index (Proc.devRef .tc main_arg1)) = V (Proc.devRef .tc main_arg1) := by
  unfold ops
  simp only [after_append]
  simp (disch := decide) only [opsA_keep, img0_keep, img1_keep, opsY_keep, opsZ_keep]

set_option maxRecDepth 200000 in
set_option maxHeartbeats 4000000 in
theorem main_part0_eq (c : Dev nD) : main_part0 (F := F) c = seq (opsA ++ (ops0_0 ++ (ops0_1 ++ (ops0_2 ++ (ops0_3 ++ (ops0_4 ++ (ops0_5 ++ (ops0_6.take 11)))))))) := rfl

set_option maxRecDepth 200000 in
set_option maxHeartbeats 4000000 in
theorem main_part1_eq (c : Dev nD) : main_part1 (F := F) c = seq (ops0_6.drop 11 ++ (ops0_7 ++ (ops0_8 ++ (ops0_9 ++ (ops1_0 ++ (ops1_1 ++ (ops1_2 ++ (ops1_3.take 2)))))))) := rfl

set_option maxRecDepth 200000 in
set_option maxHeartbeats 4000000 in
theorem main_part2_eq (c : Dev nD) : main_part2 (F := F) c = seq (ops1_3.drop 2 ++ (ops1_4 ++ (ops1_5 ++ (ops1_6 ++ (ops1_7 ++ (ops1_8 ++ (ops1_9.take 7))))))) := rfl

set_option maxRecDepth 200000 in
set_option maxHeartbeats 4000000 in
theorem main_part3_eq (c : Dev nD) : main_part3 (F := F) c = seq (ops1_9.drop 7 ++ (opsY ++ (opsZ))) := rfl

/-- Four lists one after the other run as four programs one after the other. -/
theorem seq_four {Λ : Labels} (a b c d : List (HloOp τ sig (Elt F))) :
    (seq (a ++ (b ++ (c ++ d))) : Prog (TpuEff nD τ sig (Elt F) Λ .tc) PUnit) = (seq a >>= fun _ => seq b >>= fun _ => seq c >>= fun _ => seq d) := by
  rw [seq_append, seq_append, seq_append]

theorem main_eq (c : Dev nD) : main (F := F) c = seq ops := by
  have h6 : (ops0_6 : List (HloOp τ sig (Elt F))) = ops0_6.take 11 ++ ops0_6.drop 11 := (List.take_append_drop 11 _).symm
  have h3 : (ops1_3 : List (HloOp τ sig (Elt F))) = ops1_3.take 2 ++ ops1_3.drop 2 := (List.take_append_drop 2 _).symm
  have h9 : (ops1_9 : List (HloOp τ sig (Elt F))) = ops1_9.take 7 ++ ops1_9.drop 7 := (List.take_append_drop 7 _).symm
  have h : (ops : List (HloOp τ sig (Elt F))) = (opsA ++ (ops0_0 ++ (ops0_1 ++ (ops0_2 ++ (ops0_3 ++ (ops0_4 ++ (ops0_5 ++ (ops0_6.take 11)))))))) ++ ((ops0_6.drop 11 ++ (ops0_7 ++ (ops0_8 ++ (ops0_9 ++ (ops1_0 ++ (ops1_1 ++ (ops1_2 ++ (ops1_3.take 2)))))))) ++ ((ops1_3.drop 2 ++ (ops1_4 ++ (ops1_5 ++ (ops1_6 ++ (ops1_7 ++ (ops1_8 ++ (ops1_9.take 7))))))) ++ (ops1_9.drop 7 ++ (opsY ++ (opsZ))))) := by
    unfold ops img0 img1
    conv_lhs => rw [h6, h3, h9]
    simp only [List.append_assoc]
  rw [h, seq_four, ← main_part0_eq c, ← main_part1_eq c, ← main_part2_eq c, ← main_part3_eq c]
  rfl

theorem ops_sub : (ops : List (HloOp τ sig (Elt F))).Forall fun op => op.bufs ⊆ tcRefs τ sig := by
  simp only [ops, img0, img1, List.forall_append]
  exact ⟨opsA_sub, ⟨ops0_0_sub, ops0_1_sub, ops0_2_sub, ops0_3_sub, ops0_4_sub, ops0_5_sub, ops0_6_sub, ops0_7_sub, ops0_8_sub, ops0_9_sub⟩, ⟨ops1_0_sub, ops1_1_sub, ops1_2_sub, ops1_3_sub, ops1_4_sub, ops1_5_sub, ops1_6_sub, ops1_7_sub, ops1_8_sub, ops1_9_sub⟩, opsY_sub, opsZ_sub⟩

theorem ops_fresh : (ops : List (HloOp τ sig (Elt F))).Forall fun op => op.fresh = ∅ := by
  simp only [ops, img0, img1, List.forall_append]
  exact ⟨opsA_fresh, ⟨ops0_0_fresh, ops0_1_fresh, ops0_2_fresh, ops0_3_fresh, ops0_4_fresh, ops0_5_fresh, ops0_6_fresh, ops0_7_fresh, ops0_8_fresh, ops0_9_fresh⟩, ⟨ops1_0_fresh, ops1_1_fresh, ops1_2_fresh, ops1_3_fresh, ops1_4_fresh, ops1_5_fresh, ops1_6_fresh, ops1_7_fresh, ops1_8_fresh, ops1_9_fresh⟩, opsY_fresh, opsZ_fresh⟩

/-- The reference runs to its end from any memory, leaves its result in the last buffer, its arguments as they were and
    every counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v149) = refResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨(h c main_v149).trans (ops_out (launchContents m c)), (h c main_arg0).trans (ops_arg0 (launchContents m c)),
      (h c main_arg1).trans (ops_arg1 (launchContents m c))⟩, sem_eq_zero_of_no_sems (by decide) r.2⟩)
    (run_seq (by decide) (by decide) defs main (fun _ => ops) main_eq (fun _ => ops_sub) m ρ fun _ => List.forall_iff_forall_mem.mp ops_fresh)

end Cert.ReferenceIdeal.Hand

end
-- ==== Proof.Tie.lean ====
/-
  The arithmetic of the extended reals behind the comparison of the two programs: a mean over the
  members of a class, each weighted by its score's exponential over the class's sum of them, is the
  same whether the scores are first lowered by the class's greatest score or not.
-/
module

public import Idealize.ShloMosaic.Lib.Pointwise

@[expose] public section

set_option maxRecDepth 16384

noncomputable section

namespace Cert.Tie

open Idealize.ShloMosaic

/-- A nonnegative real factor goes into a sum of extended reals. -/
theorem sum_mul_real {ι : Type} (S : Finset ι) (f : ι → EReal) (t : ℝ) (ht : 0 ≤ t) :
    (∑ v ∈ S, f v) * (t : EReal) = ∑ v ∈ S, f v * (t : EReal) := by
  classical
  induction S using Finset.induction_on with
  | empty => simp
  | insert a S ha ih =>
    rw [Finset.sum_insert ha, Finset.sum_insert ha, ← ih]
    exact EReal.right_distrib_of_nonneg_of_ne_top (EReal.coe_nonneg.2 ht) (EReal.coe_ne_top t) _ _

/-- A sum of reals, taken among the extended reals. -/
theorem sum_real {ι : Type} (S : Finset ι) (f : ι → ℝ) : (∑ v ∈ S, ((f v : ℝ) : EReal)) = ((∑ v ∈ S, f v : ℝ) : EReal) := by
  classical
  induction S using Finset.induction_on with
  | empty => simp
  | insert a S ha ih => rw [Finset.sum_insert ha, Finset.sum_insert ha, ih, EReal.coe_add]

/-- The exponential is nowhere negative. -/
theorem exp_nonneg (s : EReal) : 0 ≤ Ideal.exp s := by
  induction s with
  | bot => exact le_of_eq rfl
  | top => exact le_top
  | coe r => exact EReal.coe_nonneg.2 (Real.exp_pos r).le

/-- The divisor by which a class's sum of exponentials is guarded. -/
def guard (d : EReal) : EReal := if 0 < d then d else 1

/-- A score lowered by a class's greatest score, where that is a real number. -/
def anchor (m : EReal) : EReal := if max m (-m) < ⊤ then m else 0

/-- The mean as the kernel forms it: the sum of products by one factor. -/
def kmean {ι : Type} (S : Finset ι) (n : ℕ) (s x : ι → EReal) : EReal :=
  (∑ v ∈ S, Ideal.exp (s v) * x v) *
    (if (0 : EReal) < (n : EReal) then Ideal.div 1 (guard (∑ v ∈ S, Ideal.exp (s v)) * max (n : EReal) 1) else 0)

/-- The mean as the reference forms it: each member's weight apart, the scores lowered. -/
def rmean {ι : Type} (S : Finset ι) (n : ℕ) (m : EReal) (s x : ι → EReal) : EReal :=
  if (0 : EReal) < (n : EReal) then
    Ideal.div (∑ v ∈ S, x v * Ideal.div (Ideal.exp (s v - anchor m)) (guard (∑ v ∈ S, Ideal.exp (s v - anchor m))))
      (max (n : EReal) 1)
  else 0

theorem div_real (x : EReal) (t : ℝ) (ht : 0 < t) : Ideal.div x (t : EReal) = x * ((t⁻¹ : ℝ) : EReal) := by
  unfold Ideal.div
  rw [if_neg (by exact_mod_cast ht.ne'), EReal.coe_inv]

theorem div_top (x : EReal) : Ideal.div x ⊤ = 0 := by
  unfold Ideal.div
  rw [if_neg (by decide), EReal.inv_top, mul_zero]

theorem max_one (n : ℕ) (hn : 0 < n) : max (n : EReal) 1 = (((n : ℝ)) : EReal) := by
  rw [max_eq_left]
  · rfl
  · exact_mod_cast hn

/-- The exponential of a score below a real is a real. -/
theorem exp_below (s : EReal) (h : s ≠ ⊤) : ∃ a : ℝ, 0 ≤ a ∧ Ideal.exp s = (a : EReal) ∧
    (∀ m : ℝ, Ideal.exp (s - (m : EReal)) = ((a * Real.exp (-m) : ℝ) : EReal)) ∧ (s ≠ ⊥ → 0 < a) := by
  induction s with
  | bot =>
    refine ⟨0, le_refl _, rfl, fun m => ?_, fun h => absurd rfl h⟩
    rw [EReal.bot_sub, zero_mul]
    rfl
  | top => exact absurd rfl h
  | coe r =>
    refine ⟨Real.exp r, (Real.exp_pos r).le, rfl, fun m => ?_, fun _ => Real.exp_pos r⟩
    rw [← EReal.coe_sub, ← Real.exp_add, ← sub_eq_add_neg]
    rfl

/-- The two means are equal, `m` being the greatest score. -/
theorem kmean_eq_rmean {ι : Type} (S : Finset ι) (n : ℕ) (hn : n = 0 → S = ∅) (hS : S = ∅ → n = 0) (m : EReal) (s x : ι → EReal)
    (hle : ∀ v ∈ S, s v ≤ m) (hat : S.Nonempty → ∃ v ∈ S, s v = m) :
    kmean S n s x = rmean S n m s x := by
  classical
  unfold kmean rmean
  by_cases h0 : n = 0
  · subst h0; simp
  have hpos : 0 < n := Nat.pos_of_ne_zero h0
  have hne : S.Nonempty := Finset.nonempty_iff_ne_empty.2 fun h => h0 (hS h)
  have hc : (0 : EReal) < (n : EReal) := by exact_mod_cast hpos
  have hnr : (0 : ℝ) < (n : ℝ) := by exact_mod_cast hpos
  rw [if_pos hc, if_pos hc, max_one n hpos]
  obtain ⟨w, hw, hwm⟩ := hat hne
  induction m with
  | bot =>
    have hs : ∀ v ∈ S, s v = ⊥ := fun v hv => le_bot_iff.1 (hle v hv)
    have e0 : Ideal.exp ⊥ = 0 := rfl
    have a0 : anchor ⊥ = 0 := by unfold anchor; rw [if_neg]; simp
    have h1 : ∑ v ∈ S, Ideal.exp (s v) * x v = 0 := Finset.sum_eq_zero fun v hv => by rw [hs v hv, e0, zero_mul]
    have h2 : ∑ v ∈ S, Ideal.exp (s v - anchor ⊥) = 0 := Finset.sum_eq_zero fun v hv => by rw [hs v hv, a0, EReal.bot_sub, e0]
    have h3 : guard 0 = ((1 : ℝ) : EReal) := by unfold guard; rw [if_neg (lt_irrefl _)]; rfl
    rw [h1, h2, zero_mul, h3, Finset.sum_eq_zero fun v hv => ?_, div_real _ _ hnr, zero_mul]
    rw [hs v hv, a0, EReal.bot_sub, e0, div_real _ _ one_pos, zero_mul, mul_zero]
  | top =>
    have a0 : anchor ⊤ = 0 := by unfold anchor; rw [if_neg]; simp
    have et : Ideal.exp ⊤ = ⊤ := rfl
    have hd : ∑ v ∈ S, Ideal.exp (s v) = ⊤ := by
      rw [← Finset.add_sum_erase S _ hw, hwm, et]
      refine EReal.top_add_of_ne_bot fun h => ?_
      have := Finset.sum_nonneg (s := S.erase w) (f := fun v => Ideal.exp (s v)) fun v _ => exp_nonneg (s v)
      rw [h] at this
      exact absurd this (by simp)
    have hg : guard ⊤ = ⊤ := by unfold guard; simp
    rw [a0]
    simp only [sub_zero]
    rw [hd, hg, EReal.top_mul_coe_of_pos hnr, div_top, mul_zero]
    simp only [div_top, mul_zero, Finset.sum_const_zero]
    rw [div_real _ _ hnr, zero_mul]
  | coe r =>
    have a0 : anchor (r : EReal) = (r : EReal) := by
      unfold anchor
      rw [if_pos]
      rw [← EReal.coe_neg]
      exact max_lt (EReal.coe_lt_top _) (EReal.coe_lt_top _)
    have hlt : ∀ v ∈ S, s v ≠ ⊤ := fun v hv h => by
      have := hle v hv
      rw [h] at this
      exact absurd this (by simp)
    choose! a ha hea hes hap using fun v (hv : v ∈ S) => exp_below (s v) (hlt v hv)
    have hα : 0 < Real.exp (-r) := Real.exp_pos _
    have hA : 0 < ∑ v ∈ S, a v := Finset.sum_pos' ha ⟨w, hw, hap w hw (by rw [hwm]; exact EReal.coe_ne_bot r)⟩
    have hd : ∑ v ∈ S, Ideal.exp (s v) = ((∑ v ∈ S, a v : ℝ) : EReal) := by
      rw [← sum_real]; exact Finset.sum_congr rfl hea
    have hd' : ∑ v ∈ S, Ideal.exp (s v - (r : EReal)) = (((∑ v ∈ S, a v) * Real.exp (-r) : ℝ) : EReal) := by
      rw [Finset.sum_mul, ← sum_real]; exact Finset.sum_congr rfl fun v hv => hes v hv r
    have hg : ∀ t : ℝ, 0 < t → guard (t : EReal) = (t : EReal) := fun t ht => by
      unfold guard; rw [if_pos (by exact_mod_cast ht)]
    rw [a0, hd, hd', hg _ hA, hg _ (mul_pos hA hα), div_real _ _ hnr, ← EReal.coe_mul, div_real _ _ (mul_pos hA hnr), one_mul,
      sum_mul_real _ _ _ (inv_nonneg.2 (mul_pos hA hnr).le), sum_mul_real _ _ _ (inv_nonneg.2 hnr.le)]
    refine Finset.sum_congr rfl fun v hv => ?_
    rw [hea v hv, hes v hv r, div_real _ _ (mul_pos hA hα), mul_comm ((a v : ℝ) : EReal) (x v), mul_assoc, mul_assoc, ← EReal.coe_mul, ← EReal.coe_mul,
      ← EReal.coe_mul]
    congr 2
    field_simp

/-! ## The first greatest of sixteen -/

theorem exists_first (q : Fin 16 → EReal) : ∃ k : Fin 16, (∀ k', q k' ≤ q k) ∧ ∀ k', q k' = q k → k ≤ k' := by
  classical
  obtain ⟨k₀, -, h₀⟩ := Finset.exists_max_image Finset.univ q ⟨0, Finset.mem_univ _⟩
  have hne : (Finset.univ.filter fun k => q k = q k₀).Nonempty := ⟨k₀, by simp⟩
  have hk := (Finset.mem_filter.1 (Finset.min'_mem _ hne)).2
  refine ⟨(Finset.univ.filter fun k => q k = q k₀).min' hne, fun k' => ?_, fun k' hk' => Finset.min'_le _ _ (Finset.mem_filter.2 ⟨Finset.mem_univ _, ?_⟩)⟩
  · rw [hk]; exact h₀ k' (Finset.mem_univ _)
  · rw [hk', hk]

/-- The first of sixteen scores that none exceeds. -/
def cls (q : Fin 16 → EReal) : Fin 16 := (exists_first q).choose

theorem le_cls (q : Fin 16 → EReal) (k : Fin 16) : q k ≤ q (cls q) := (exists_first q).choose_spec.1 k
theorem cls_le (q : Fin 16 → EReal) (k : Fin 16) (h : q k = q (cls q)) : cls q ≤ k := (exists_first q).choose_spec.2 k h

theorem cls_unique (q : Fin 16 → EReal) (k : Fin 16) (h : ∀ k', q k' ≤ q k) (h' : ∀ k', q k' = q k → k ≤ k') : k = cls q :=
  le_antisymm (h' _ (le_antisymm (h _) (le_cls q k))) (cls_le q k (le_antisymm (le_cls q k) (h _)))

/-- The greatest of a family, as a fold from the least value. -/
theorem fold_max_eq {ι : Type} [Fintype ι] (f : ι → EReal) (m : EReal) (hle : ∀ v, f v ≤ m) (hat : m = ⊥ ∨ ∃ v, f v = m) :
    Finset.univ.fold max ⊥ f = m := by
  refine le_antisymm (Finset.fold_max_le m |>.2 ⟨bot_le, fun v _ => hle v⟩) ?_
  rcases hat with h | ⟨v, hv⟩
  · rw [h]; exact bot_le
  · exact Finset.le_fold_max m |>.2 (Or.inr ⟨v, Finset.mem_univ _, hv.ge⟩)

theorem fold_cls (q : Fin 16 → EReal) : Finset.univ.fold max ⊥ q = q (cls q) :=
  fold_max_eq q _ (le_cls q) (Or.inr ⟨_, rfl⟩)

/-- The signed least of two words. -/
theorem minsi_cases (a b : BitVec 32) : (IntOp.minsi a b).toInt ≤ a.toInt ∧ (IntOp.minsi a b).toInt ≤ b.toInt ∧
    (IntOp.minsi a b = a ∨ IntOp.minsi a b = b) := by
  unfold IntOp.minsi
  split
  · next h => exact ⟨le_refl _, by have := BitVec.slt_iff_toInt_lt.1 (by simpa using h); omega, Or.inl rfl⟩
  · next h => exact ⟨by have := mt BitVec.slt_iff_toInt_lt.2 (by simpa using h); omega, le_refl _, Or.inr rfl⟩

theorem fold_minsi {ι : Type} [DecidableEq ι] (S : Finset ι) (b : BitVec 32) (f : ι → BitVec 32) :
    (∀ k ∈ S, (S.fold IntOp.minsi b f).toInt ≤ (f k).toInt) ∧ (S.fold IntOp.minsi b f = b ∨ ∃ k ∈ S, S.fold IntOp.minsi b f = f k) := by
  induction S using Finset.induction_on with
  | empty => exact ⟨fun k hk => absurd hk (by simp), Or.inl rfl⟩
  | insert a S ha ih =>
    rw [Finset.fold_insert ha]
    obtain ⟨h1, h2, h3⟩ := minsi_cases (f a) (S.fold IntOp.minsi b f)
    refine ⟨fun k hk => ?_, ?_⟩
    · rcases Finset.mem_insert.1 hk with rfl | hk
      · exact h1
      · exact h2.trans (ih.1 k hk)
    · rcases h3 with h | h
      · exact Or.inr ⟨a, Finset.mem_insert_self _ _, h⟩
      · rcases ih.2 with h' | ⟨k, hk, h'⟩
        · exact Or.inl (h.trans h')
        · exact Or.inr ⟨k, Finset.mem_insert_of_mem hk, h.trans h'⟩

theorem toInt_small (k : Fin 17) : (BitVec.ofNat 32 k.val).toInt = (k.val : Int) := by
  have := k.isLt
  rw [BitVec.toInt_eq_toNat_of_lt (by rw [BitVec.toNat_ofNat, Nat.mod_eq_of_lt] <;> omega), BitVec.toNat_ofNat, Nat.mod_eq_of_lt (by omega)]

theorem toInt_k (k : Fin 16) : (BitVec.ofNat 32 k.val).toInt = (k.val : Int) := toInt_small k.castSucc

/-- The kernel's class of a voxel: the least of the positions holding the greatest score. -/
theorem seg_fold (q : Fin 16 → EReal) :
    Finset.univ.fold IntOp.minsi (2147483647#32)
      (fun k : Fin 16 => if q k = q (cls q) then BitVec.ofNat 32 k.val else 16#32) = BitVec.ofNat 32 (cls q).val := by
  obtain ⟨h1, h2⟩ := fold_minsi Finset.univ (2147483647#32) (fun k : Fin 16 => if q k = q (cls q) then BitVec.ofNat 32 k.val else 16#32)
  have hb := h1 (cls q) (Finset.mem_univ _)
  rw [if_pos rfl, toInt_k] at hb
  have hk := (cls q).isLt
  rcases h2 with h | ⟨k, -, h⟩
  · rw [h] at hb
    have : (2147483647#32 : BitVec 32).toInt = 2147483647 := by decide
    omega
  · by_cases he : q k = q (cls q)
    · rw [if_pos he] at h
      rw [h]
      rw [h, toInt_k] at hb
      have := Fin.le_def.1 (cls_le q k he)
      rw [show k = cls q from Fin.ext (by omega)]
    · rw [if_neg he] at h
      rw [h] at hb
      have : (16#32 : BitVec 32).toInt = 16 := by decide
      omega

theorem ofNat_inj (k k' : Fin 16) : BitVec.ofNat 32 k.val = BitVec.ofNat 32 k'.val ↔ k = k' := by
  constructor
  · intro h
    have := congrArg BitVec.toInt h
    rw [toInt_k, toInt_k] at this
    exact Fin.ext (by omega)
  · rintro rfl; rfl

/-! ## The voxels of a class -/

/-- The voxels of a class. -/
def members (C : Fin 110592 → Fin 16) (k : Fin 16) : Finset (Fin 110592) := Finset.univ.filter fun v => C v = k

theorem mem_members (C : Fin 110592 → Fin 16) (k : Fin 16) (v : Fin 110592) : v ∈ members C k ↔ C v = k := by
  unfold members
  rw [Finset.mem_filter]
  exact ⟨fun h => h.2, fun h => ⟨Finset.mem_univ _, h⟩⟩

/-- How many voxels a class has, as a sum of ones. -/
theorem card_sum {ι : Type} (S : Finset ι) : (S.card : EReal) = ∑ _v ∈ S, (1 : EReal) := by
  rw [Finset.sum_const, nsmul_one]

end Cert.Tie
-- ==== Proof.KernelAt.lean ====
/-
  The kernel's result read at one element, over the extended reals: the feature times the mean of its voxel's class.
-/
module

public import proofs.«01_k».proof.Proof.SpecIdeal
public import proofs.«01_k».proof.Proof.Tie
public import Idealize.ShloMosaic.Lib.Pointwise

@[expose] public section

set_option maxRecDepth 16384

noncomputable section

namespace Cert.KernelIdeal.Hand

open Cert.KernelIdeal Cert.KernelIdeal.Gen Cert.Tie
open Idealize.ShloMosaic

attribute [local irreducible] members kmean

theorem ofBits_bot : Ideal.ofBits .f32 0xFF800000#32 = ⊥ := by simp [Ideal.ofBits, Ideal.ieee]

/-- A voxel's scores in one block. -/
def col (P : Vec Ideal S16x12288 .f32) (y : Fin 12288) : Fin 16 → EReal := fun k => P (ix2 k y)

theorem pay5_at (P : Vec Ideal S16x12288 .f32) (y : Fin 12288) : k0_pay5 P (ix2 0 y) = BitVec.ofNat 32 (cls (col P y)).val := by
  pointwise [k0_pay5, k0_pay4]
  rw [ofBits_bot]
  have h := seg_fold (col P y)
  rw [← fold_cls (col P y)] at h
  exact h

theorem pay6_at (P : Vec Ideal S16x12288 .f32) (y : Fin 12288) : k0_pay6 P (ix2 0 y) = BitVec.ofNat 32 (cls (col P y)).val := by
  rw [← pay5_at]
  pointwise [k0_pay6]

/-- A word of one bit that says whether two classes are the same chooses by that. -/
theorem select_class (k k' : Fin 16) (a b : EReal) :
    Scalar.select (IntOp.cmpi .eq (BitVec.ofNat 32 k.val) (BitVec.ofNat 32 k'.val)) a b = if k' = k then a else b := by
  rw [WordCmp.cmpi_eq_eq, WordCmp.select_decide]
  exact if_congr ((ofNat_inj k k').trans eq_comm) rfl rfl

theorem pay7_at (P : Vec Ideal S16x12288 .f32) (k : Fin 16) (y : Fin 12288) (a b : EReal) :
    Scalar.select (k0_pay7 P (ix2 k y)) a b = if cls (col P y) = k then a else b := by
  rw [← select_class, ← pay5_at]
  pointwise [k0_pay7]

theorem pay8_at (P : Vec Ideal S16x12288 .f32) (k : Fin 16) (y : Fin 12288) :
    k0_pay8 P (ix2 k y) = if cls (col P y) = k then Ideal.exp (col P y (cls (col P y))) else 0 := by
  rw [← fold_cls (col P y), ← pay7_at, ← ofBits_bot]
  pointwise [k0_pay8, k0_pay4, col]

section Sums

variable (P : Fin 9 → Vec Ideal S16x12288 .f32) (X : Fin 9 → Vec Ideal S64x12288 .f32)

theorem numTo_at (k : Fin 16) (c : Fin 64) : ∀ (n : ℕ) (h : n ≤ 9), numTo P X n h (ix2 k c) =
    ∑ j : Fin n, ∑ y, k0_pay8 (P (j.castLE h)) (ix2 k y) * X (j.castLE h) (ix2 c y)
  | 0, _ => by
    rw [Finset.univ_eq_empty, Finset.sum_empty]
    show k0_pay1 (F := Ideal) (ix2 k c) = 0
    pointwise [k0_pay1]
  | n + 1, h => by
    rw [Fin.sum_univ_castSucc]
    have ih := numTo_at k c n (Nat.le_of_succ_le h)
    show k0_pay9 (numTo P X n _) (k0_pay8 (P ⟨n, h⟩)) (X ⟨n, h⟩) (ix2 k c) = _
    pointwise [k0_pay9]
    rw [ih]
    rfl

theorem denTo_at (k : Fin 16) : ∀ (n : ℕ) (h : n ≤ 9), denTo P n h (ix2 k 0) =
    ∑ j : Fin n, ∑ y, k0_pay8 (P (j.castLE h)) (ix2 k y)
  | 0, _ => by
    rw [Finset.univ_eq_empty, Finset.sum_empty]
    show k0_pay2 (F := Ideal) (ix2 k 0) = 0
    pointwise [k0_pay2]
  | n + 1, h => by
    rw [Fin.sum_univ_castSucc]
    have ih := denTo_at k n (Nat.le_of_succ_le h)
    show k0_pay10 (denTo P n _) (k0_pay8 (P ⟨n, h⟩)) (ix2 k 0) = _
    pointwise [k0_pay10]
    rw [ih]
    rfl

theorem cntTo_at (k : Fin 16) : ∀ (n : ℕ) (h : n ≤ 9), cntTo P n h (ix2 k 0) =
    ∑ j : Fin n, ∑ y, Scalar.select (k0_pay7 (P (j.castLE h)) (ix2 k y)) (1 : EReal) 0
  | 0, _ => by
    rw [Finset.univ_eq_empty, Finset.sum_empty]
    show k0_pay3 (F := Ideal) (ix2 k 0) = 0
    pointwise [k0_pay3]
  | n + 1, h => by
    rw [Fin.sum_univ_castSucc]
    have ih := cntTo_at k n (Nat.le_of_succ_le h)
    show k0_pay11 (cntTo P n _) (k0_pay7 (P ⟨n, h⟩)) (ix2 k 0) = _
    pointwise [k0_pay11]
    rw [ih]
    rfl

theorem count_last (k : Fin 16) :
    cntTo P 8 (by omega) (ix2 k 0) + ∑ y, Scalar.select (k0_pay7 (P 8) (ix2 k y)) (1 : EReal) 0 = cntTo P 9 (le_refl _) (ix2 k 0) := by
  rw [cntTo_at, cntTo_at, Fin.sum_univ_castSucc (n := 8)]
  rfl

theorem pay76_at (v5 : FVec Ideal S16x1 .f32) (v27 : IVec S16x12288 1) (v1 : FVec Ideal S16x64 .f32) (v2 : FVec Ideal S16x1 .f32) (k : Fin 16) (c : Fin 64)
    (N D n : EReal) (hN : v1 (ix2 k c) = N) (hD : v2 (ix2 k 0) = D)
    (hn : v5 (ix2 k 0) + ∑ y, Scalar.select (v27 (ix2 k y)) (1 : EReal) 0 = n) :
    k0_pay76 v5 v27 v1 v2 (ix2 k c) = N * (if 0 < n then Ideal.div 1 (guard D * max n 1) else 0) := by
  pointwise [k0_pay76]
  rw [hn, hD, hN]
  rfl

theorem proto_eq (k : Fin 16) (c : Fin 64) (N D n : EReal) (hN : numTo P X 9 (le_refl _) (ix2 k c) = N) (hD : denTo P 9 (le_refl _) (ix2 k 0) = D)
    (hn : cntTo P 9 (le_refl _) (ix2 k 0) = n) :
    proto P X (ix2 k c) = N * (if 0 < n then Ideal.div 1 (guard D * max n 1) else 0) :=
  pay76_at _ _ _ _ k c N D n hN hD ((count_last P k).trans hn)

end Sums

/-- A sum over blocks and places in a block is the sum over voxels. -/
theorem sum_vox (f : Fin 110592 → EReal) : ∑ j : Fin 9, ∑ y : Fin 12288, f (vox j y) = ∑ v, f v := by
  rw [← Fintype.sum_prod_type' (f := fun (j : Fin 9) (y : Fin 12288) => f (vox j y))]
  refine Fintype.sum_equiv (finProdFinEquiv (m := 9) (n := 12288)) _ _ fun z => congrArg f (Fin.ext ?_)
  show 12288 * z.1.val + z.2.val = z.2.val + 12288 * z.1.val
  omega

section One

variable (q : Fin 110592 → Fin 16 → EReal) (w : Fin 110592 → Fin 64 → EReal)
  (P : Fin 9 → Vec Ideal S16x12288 .f32) (X : Fin 9 → Vec Ideal S64x12288 .f32)
  (hP : ∀ j k y, P j (ix2 k y) = q (vox j y) k) (hX : ∀ j c y, X j (ix2 c y) = w (vox j y) c)

include hP

theorem col_eq (j : Fin 9) (y : Fin 12288) : col (P j) y = q (vox j y) := funext fun k => hP j k y

theorem den_at (k : Fin 16) : denTo P 9 (le_refl _) (ix2 k 0) = ∑ v ∈ members (fun v => cls (q v)) k, Ideal.exp (q v (cls (q v))) := by
  rw [denTo_at, members, Finset.sum_filter, ← sum_vox]
  refine Finset.sum_congr rfl fun j _ => Finset.sum_congr rfl fun y _ => ?_
  rw [pay8_at]
  rw [show col (P (j.castLE (le_refl 9))) y = q (vox j y) from col_eq q P hP j y]

theorem cnt_at (k : Fin 16) : cntTo P 9 (le_refl _) (ix2 k 0) = ((members (fun v => cls (q v)) k).card : EReal) := by
  rw [cntTo_at, card_sum, members, Finset.sum_filter, ← sum_vox]
  refine Finset.sum_congr rfl fun j _ => Finset.sum_congr rfl fun y _ => ?_
  rw [pay7_at]
  rw [show col (P (j.castLE (le_refl 9))) y = q (vox j y) from col_eq q P hP j y]

include hX

theorem num_at (k : Fin 16) (c : Fin 64) : numTo P X 9 (le_refl _) (ix2 k c) =
    ∑ v ∈ members (fun v => cls (q v)) k, Ideal.exp (q v (cls (q v))) * w v c := by
  rw [numTo_at, members, Finset.sum_filter, ← sum_vox]
  refine Finset.sum_congr rfl fun j _ => Finset.sum_congr rfl fun y _ => ?_
  rw [pay8_at]
  rw [show col (P (j.castLE (le_refl 9))) y = q (vox j y) from col_eq q P hP j y, show X (j.castLE (le_refl 9)) (ix2 c y) = w (vox j y) c from hX j c y]
  split
  · rfl
  · rw [zero_mul]

theorem proto_at (k : Fin 16) (c : Fin 64) : proto P X (ix2 k c) =
    kmean (members (fun v => cls (q v)) k) (members (fun v => cls (q v)) k).card (fun v => q v (cls (q v))) fun v => w v c := by
  rw [proto_eq P X k c _ _ _ (num_at q w P X hP hX k c) (den_at q P hP k) (cnt_at q P hP k)]
  unfold kmean
  rfl

theorem outC_at (j : Fin 9) (y : Fin 12288) (c : Fin 64) : outC P X j (ix2 c y) =
    w (vox j y) c * kmean (members (fun v => cls (q v)) (cls (q (vox j y)))) (members (fun v => cls (q v)) (cls (q (vox j y)))).card
      (fun v => q v (cls (q v))) fun v => w v c := by
  have h : outC P X j (ix2 c y) = outS P X j (ix3 0 c y) := by
    pointwise [outC]
  rw [h]
  unfold outS
  pointwise [k0_pay79]
  rw [pay6_at, hX, col_eq q P hP]
  refine congrArg (w (vox j y) c * ·) ?_
  rw [← proto_at q w P X hP hX, Finset.sum_eq_single (cls (q (vox j y)))]
  · rw [select_class, if_pos rfl]
  · intro k _ hk
    rw [select_class, if_neg (Ne.symm hk)]
  · exact fun h => absurd (Finset.mem_univ _) h

end One

end Cert.KernelIdeal.Hand
-- ==== Proof.Grid.lean ====
/-
  A voxel's place on the grid of an image, and an array read there.
-/
module

public import Idealize.ShloMosaic.Lib.Pointwise

@[expose] public section

noncomputable section

namespace Cert.Tie

open Idealize.ShloMosaic

/-- An array of images on the grid read at one image, one channel and one voxel, the voxels counted along the grid's rows. -/
def at5 {n : ℕ} (p : (⟨5, ![2, n, 48, 48, 48]⟩ : Shape).Idx → EReal) (b : Fin 2) (u : Fin 110592) (k : Fin n) : EReal :=
  p (ix5 b k ⟨u.val / 2304, by omega⟩ ⟨u.val / 48 % 48, by omega⟩ ⟨u.val % 48, by omega⟩)

/-- The voxel of a place on the grid. -/
def voxel (d h w : Fin 48) : Fin 110592 := ⟨d.val * 2304 + h.val * 48 + w.val, by omega⟩

theorem at5_voxel {n : ℕ} (p : (⟨5, ![2, n, 48, 48, 48]⟩ : Shape).Idx → EReal) (b : Fin 2) (k : Fin n) (d h w : Fin 48) :
    at5 p b (voxel d h w) k = p (ix5 b k d h w) := by
  unfold at5 voxel
  congr 2 <;> exact Fin.ext (by simp only []; omega)

end Cert.Tie
-- ==== Proof.KernelGrid.lean ====
/-
  The kernel's whole result read at one place of the grid, over the extended reals.
-/
module

public import proofs.«01_k».proof.Proof.KernelAt
public import proofs.«01_k».proof.Proof.ValueIdeal
public import proofs.«01_k».proof.Proof.Grid

@[expose] public section

set_option maxRecDepth 16384

noncomputable section

namespace Cert.KernelIdeal.Hand

open Cert.KernelIdeal Cert.KernelIdeal.Gen Cert.Tie
open Idealize.ShloMosaic

attribute [local irreducible] members kmean

theorem flat16 (p : Vec Ideal S2x16x48x48x48 .f32) (b : Fin 2) (k : Fin 16) (v : Fin 110592) :
    shapeCast S2x16x110592 p shapeCasts_S2x16x48x48x48_S2x16x110592 (ix3 b k v) = at5 p b v k := by
  pointwise
  rfl
theorem flat64 (p : Vec Ideal S2x64x48x48x48 .f32) (b : Fin 2) (k : Fin 64) (v : Fin 110592) :
    shapeCast S2x64x110592 p shapeCasts_S2x64x48x48x48_S2x64x110592 (ix3 b k v) = at5 p b v k := by
  pointwise
  rfl
theorem unflat (y : Vec Ideal S2x64x110592 .f32) (b : Fin 2) (c : Fin 64) (d h w : Fin 48) :
    shapeCast S2x64x48x48x48 y shapeCasts_S2x64x110592_S2x64x48x48x48 (ix5 b c d h w) = y (ix3 b c (voxel d h w)) := by
  pointwise
  rfl

theorem OUT_read (x : Vec Ideal S2x64x110592 .f32) (p : Vec Ideal S2x16x110592 .f32) (q : Fin 110592 → Fin 16 → EReal) (w : Fin 110592 → Fin 64 → EReal) (b : Fin 2)
    (hp : ∀ k v, p (ix3 b k v) = q v k) (hx : ∀ c v, x (ix3 b c v) = w v c) (c : Fin 64) (v : Fin 110592) :
    OUT x p (ix3 b c v) = w v c * kmean (members (fun v => cls (q v)) (cls (q v))) (members (fun v => cls (q v)) (cls (q v))).card
      (fun v => q v (cls (q v))) fun v => w v c := by
  obtain ⟨j, y, rfl⟩ : ∃ (j : Fin 9) (y : Fin 12288), v = vox j y :=
    ⟨⟨v.val / 12288, by omega⟩, ⟨v.val % 12288, by omega⟩, Fin.ext (by show v.val = 12288 * (v.val / 12288) + v.val % 12288; omega)⟩
  refine Eq.trans ?_ (outC_at q w (chP p b) (chX x b) (fun j k y => hp k (vox j y)) (fun j c y => hx c (vox j y)) j y c)
  refine Eq.trans ?_ (OUT_at x p b j (ix2 c y))
  rw [ix3_eq_valueIdx]
  rfl

theorem result_at (x : Vec Ideal S2x64x48x48x48 .f32) (p : Vec Ideal S2x16x48x48x48 .f32) (b : Fin 2) (c : Fin 64) (d h w : Fin 48) :
    result x p (ix5 b c d h w) = x (ix5 b c d h w) * kmean (members (fun v => cls (at5 p b v)) (cls (at5 p b (voxel d h w))))
      (members (fun v => cls (at5 p b v)) (cls (at5 p b (voxel d h w)))).card (fun v => at5 p b v (cls (at5 p b v))) fun v => at5 x b v c := by
  rw [← at5_voxel x]
  refine Eq.trans ?_ (OUT_read _ _ (at5 p b) (at5 x b) b (fun k v => flat16 p b k v) (fun c v => flat64 x b c v) c (voxel d h w))
  exact unflat _ b c d h w

end Cert.KernelIdeal.Hand
-- ==== Proof.RefPick.lean ====
/-
  The reference's class of a voxel is the first of its greatest scores; and what the reference's gathers and
  sums over classes read and add, where every index is a class.
-/
module

public import proofs.«01_k».proof.Proof.RefSpec
public import proofs.«01_k».proof.Proof.Tie
public import Idealize.ShloMosaic.Lib.Pointwise
public import Idealize.ShloMosaic.Lib.Routing.OpsPair

@[expose] public section

set_option maxRecDepth 16384

noncomputable section

namespace Cert.ReferenceIdeal.Hand

open Cert.ReferenceIdeal Cert.ReferenceIdeal.Gen Cert.Tie
open Idealize.ShloMosaic

/-- The words the program writes for minus and plus infinity. -/
theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

/-- The second pair is at least as good a first greatest as the first. -/
def Below (x r : EReal × BitVec 32) : Prop := x.1 < r.1 ∨ (x.1 = r.1 ∧ r.2.toInt ≤ x.2.toInt)

theorem Below.refl (x : EReal × BitVec 32) : Below x x := Or.inr ⟨rfl, le_refl _⟩

theorem Below.trans {x y z : EReal × BitVec 32} (h : Below x y) (h' : Below y z) : Below x z := by
  rcases h with h | ⟨h, i⟩
  · rcases h' with h' | ⟨h', -⟩
    · exact Or.inl (h.trans h')
    · exact Or.inl (h' ▸ h)
  · rcases h' with h' | ⟨h', i'⟩
    · exact Or.inl (h ▸ h')
    · exact Or.inr ⟨h.trans h', i'.trans i⟩

/-- One step of the reference's argmax keeps one of its two pairs, and the better. -/
theorem step (a b : EReal × BitVec 32) : (reducer_argmax_f32_i32 (F := Ideal) a b = a ∨ reducer_argmax_f32_i32 (F := Ideal) a b = b) ∧
    Below a (reducer_argmax_f32_i32 (F := Ideal) a b) ∧ Below b (reducer_argmax_f32_i32 (F := Ideal) a b) := by
  obtain ⟨a1, a2⟩ := a
  obtain ⟨b1, b2⟩ := b
  have key : reducer_argmax_f32_i32 (F := Ideal) (a1, a2) (b1, b2) = if b1 < a1 ∨ (a1 = b1 ∧ a2.toInt < b2.toInt) then (a1, a2) else (b1, b2) := by
    have e1 : FloatOps.cmpf (F := Ideal) (φ := .f32) .ogt a1 b1 = BitVec.ofBool (decide (b1 < a1)) := rfl
    have e2 : FloatOps.cmpf (F := Ideal) (φ := .f32) .une a1 a1 = 0#1 := by
      show BitVec.ofBool (decide (a1 ≠ a1)) = 0#1
      simp
    have e3 : FloatOps.cmpf (F := Ideal) (φ := .f32) .oeq a1 b1 = BitVec.ofBool (decide (a1 = b1)) := rfl
    have e4 : IntOp.cmpi .slt a2 b2 = BitVec.ofBool (decide (a2.toInt < b2.toInt)) := rfl
    unfold reducer_argmax_f32_i32
    simp only [e1, e2, e3, e4]
    by_cases h1 : b1 < a1
    · rw [if_pos (Or.inl h1), decide_eq_true h1, decide_eq_false h1.ne']
      by_cases h3 : a2.toInt < b2.toInt
      · rw [decide_eq_true h3]; rfl
      · rw [decide_eq_false h3]; rfl
    · rw [decide_eq_false h1]
      by_cases h2 : a1 = b1
      · subst h2
        by_cases h3 : a2.toInt < b2.toInt
        · rw [if_pos (Or.inr ⟨rfl, h3⟩), decide_eq_true h3, decide_eq_true rfl]; rfl
        · rw [if_neg (by tauto), decide_eq_false h3, decide_eq_true rfl]; rfl
      · rw [if_neg (by tauto), decide_eq_false h2]
        by_cases h3 : a2.toInt < b2.toInt
        · rw [decide_eq_true h3]; rfl
        · rw [decide_eq_false h3]; rfl
  rw [key]
  split
  · next h => exact ⟨Or.inl rfl, Below.refl _, h.elim Or.inl fun h => Or.inr ⟨h.1.symm, h.2.le⟩⟩
  · next h =>
    refine ⟨Or.inr rfl, ?_, Below.refl _⟩
    rcases lt_trichotomy a1 b1 with h' | h' | h'
    · exact Or.inl h'
    · exact Or.inr ⟨h', not_lt.1 fun h'' => h (Or.inr ⟨h', h''⟩)⟩
    · exact absurd (Or.inl h') h

/-- The whole fold keeps one of its pairs, and the best. -/
theorem foldl_best (L : List (EReal × BitVec 32)) : ∀ a : EReal × BitVec 32,
    (∀ x ∈ a :: L, Below x (L.foldl (reducer_argmax_f32_i32 (F := Ideal)) a)) ∧ L.foldl (reducer_argmax_f32_i32 (F := Ideal)) a ∈ a :: L := by
  induction L with
  | nil => exact fun a => ⟨fun x hx => by rw [List.mem_singleton.1 hx]; exact Below.refl _, List.mem_singleton.2 rfl⟩
  | cons b L ih =>
    intro a
    obtain ⟨h1, h2⟩ := ih (reducer_argmax_f32_i32 (F := Ideal) a b)
    obtain ⟨s1, s2, s3⟩ := step a b
    have h0 := h1 _ List.mem_cons_self
    rw [List.foldl_cons]
    refine ⟨fun x hx => ?_, ?_⟩
    · rcases List.mem_cons.1 hx with rfl | hx
      · exact s2.trans h0
      · rcases List.mem_cons.1 hx with rfl | hx
        · exact s3.trans h0
        · exact h1 x (List.mem_cons_of_mem _ hx)
    · rcases List.mem_cons.1 h2 with h | h
      · rcases s1 with s | s
        · exact List.mem_cons.2 (Or.inl (h.trans s))
        · exact List.mem_cons.2 (Or.inr (List.mem_cons.2 (Or.inl (h.trans s))))
      · exact List.mem_cons.2 (Or.inr (List.mem_cons_of_mem _ h))

/-- A voxel's scores. -/
def row (q : Vec Ideal S110592x16 .f32) (v : Fin 110592) : Fin 16 → EReal := fun k => q (ix2 v k)

/-- The pairs over which a voxel's argmax folds: its scores with their positions. -/
theorem mem_fiber (q : Vec Ideal S110592x16 .f32) (v : Fin 110592) (p : EReal × BitVec 32) :
    p ∈ Host.argReduceFiber q (iotaInDim S110592x16 32 1) reducesTo_S110592x16_S110592_d1 (ix1 v) ↔
      ∃ k : Fin 16, p = (row q v k, BitVec.ofNat 32 k.val) := by
  unfold Host.argReduceFiber
  rw [List.mem_map]
  constructor
  · rintro ⟨n, hn, rfl⟩
    have hd := of_decide_eq_true (List.mem_filter.1 hn).2
    have hi := eq_ix2 (S110592x16.rowMajor.symm n)
    have h0 : (S110592x16.rowMajor.symm n) 0 = v := congrFun hd 0
    refine ⟨(S110592x16.rowMajor.symm n) 1, ?_⟩
    rw [h0] at hi
    unfold row
    rw [← hi]
    rfl
  · rintro ⟨k, rfl⟩
    refine ⟨S110592x16.rowMajor (ix2 v k), List.mem_filter.2 ⟨List.mem_finRange _, decide_eq_true ?_⟩, ?_⟩
    · rw [Equiv.symm_apply_apply]
      funext a
      match a with
      | ⟨0, _⟩ => rfl
    · rw [Equiv.symm_apply_apply]
      rfl

/-- The fold over a voxel's pairs gives the first of its greatest scores. -/
theorem best_cls (r : Fin 16 → EReal) (L : List (EReal × BitVec 32)) (hL : ∀ p, p ∈ L ↔ ∃ k : Fin 16, p = (r k, BitVec.ofNat 32 k.val)) :
    (L.foldl (reducer_argmax_f32_i32 (F := Ideal)) ((⊥ : EReal), 0#32)).2 = BitVec.ofNat 32 (cls r).val := by
  obtain ⟨h1, h2⟩ := foldl_best L ((⊥ : EReal), 0#32)
  generalize L.foldl (reducer_argmax_f32_i32 (F := Ideal)) ((⊥ : EReal), 0#32) = p at h1 h2 ⊢
  have hall := fun k : Fin 16 => h1 _ (List.mem_cons_of_mem _ ((hL _).2 ⟨k, rfl⟩))
  rcases List.mem_cons.1 h2 with rfl | h
  · have hb : ∀ k, r k = ⊥ := fun k => (hall k).elim (fun h => absurd h not_lt_bot) fun h => h.1
    rw [← cls_unique r 0 (fun k => by rw [hb, hb]) fun k _ => Fin.zero_le k]
    rfl
  · obtain ⟨k, rfl⟩ := (hL _).1 h
    rw [← cls_unique r k (fun k' => (hall k').elim (fun h => h.le) fun h => h.1.le) fun k' he =>
      (hall k').elim (fun h => absurd he h.ne) fun h => by
        have := h.2
        rw [toInt_k, toInt_k] at this
        exact Fin.le_def.2 (by omega)]

/-- The classes, by the definition. -/
theorem segOf_eq {F : FTy → Type} [FloatOps F] (q : Vec F S110592x16 .f32) : segOf q = fun j =>
    (Host.argReduce (F := F) reducer_argmax_f32_i32 q (iotaInDim S110592x16 32 1) (constant S_ .f32 0xFF800000#32) (constantI S_ 32 0#32)
      reducesTo_S110592x16_S110592_d1 h_S_ j).2 := rfl

theorem first_pair : (constant (F := Ideal) S_ .f32 0xFF800000#32 (Shape.Idx.first h_S_), constantI S_ 32 0#32 (Shape.Idx.first h_S_)) = ((⊥ : EReal), 0#32) :=
  Prod.ext ofBits_bot rfl

/-- The classes, as folds over each voxel's pairs. -/
theorem segOf_fold (q : Vec Ideal S110592x16 .f32) : segOf q = fun j =>
    (List.foldl (reducer_argmax_f32_i32 (F := Ideal)) ((⊥ : EReal), 0#32)
      (Host.argReduceFiber q (iotaInDim S110592x16 32 1) reducesTo_S110592x16_S110592_d1 j)).2 := by
  refine (segOf_eq (F := Ideal) q).trans (funext fun j => ?_)
  rw [Ideal.argReduce_eq_reduce2, Host.reduce2_eq_foldl_fiber, first_pair]

theorem seg_at (q : Vec Ideal S110592x16 .f32) (v : Fin 110592) : segOf q (ix1 v) = BitVec.ofNat 32 (cls (row q v)).val :=
  (congrFun (segOf_fold q) (ix1 v)).trans (best_cls (row q v) _ (mem_fiber q v))

/-! ## The gathers -/

theorem gather_class {α : Type} (m : S16.Idx → α) (idx : IVec S110592x1 32) (v : Fin 110592) (k : Fin 16) (h : (idx (ix2 v 0)).toInt = (k.val : Int)) :
    Host.gather gather_S16_S110592x1_S110592_n_0_n_n_0_1_1 m idx (ix1 v) = m (ix1 k) := by
  unfold Host.gather
  refine congrArg m (funext fun a => Fin.ext ?_)
  match a with
  | ⟨0, _⟩ =>
    show min (idx (gather_S16_S110592x1_S110592_n_0_n_n_0_1_1.siIdx (ix1 v) ⟨0, by decide⟩)).toInt.toNat 15 = k.val
    rw [show gather_S16_S110592x1_S110592_n_0_n_n_0_1_1.siIdx (ix1 v) ⟨0, by decide⟩ = ix2 v 0 from by
      funext b; fin_cases b <;> rfl, h]
    omega

theorem gather_rows {α : Type} (m : S16x64.Idx → α) (idx : IVec S110592x1 32) (v : Fin 110592) (c : Fin 64) (k : Fin 16) (h : (idx (ix2 v 0)).toInt = (k.val : Int)) :
    Host.gather gather_S16x64_S110592x1_S110592x64_1_0_n_n_0_1_164 m idx (ix2 v c) = m (ix2 k c) := by
  unfold Host.gather
  refine congrArg m (funext fun a => Fin.ext ?_)
  match a with
  | ⟨0, _⟩ =>
    show min (idx (gather_S16x64_S110592x1_S110592x64_1_0_n_n_0_1_164.siIdx (ix2 v c) ⟨0, by decide⟩)).toInt.toNat 15 = k.val
    rw [show gather_S16x64_S110592x1_S110592x64_1_0_n_n_0_1_164.siIdx (ix2 v c) ⟨0, by decide⟩ = ix2 v 0 from by
      funext b; fin_cases b <;> rfl, h]
    omega
  | ⟨1, _⟩ =>
    show 0 + 0 + c.val = c.val
    omega

theorem gather_score {α : Type} (m : S110592x16.Idx → α) (idx : IVec S110592x1x1 32) (v : Fin 110592) (k : Fin 16) (h : (idx (ix3 v 0 0)).toInt = (k.val : Int)) :
    Host.gather gather_S110592x16_S110592x1x1_S110592x1_n_1_0_0_1_2_11 m idx (ix2 v 0) = m (ix2 v k) := by
  unfold Host.gather
  refine congrArg m (funext fun a => Fin.ext ?_)
  match a with
  | ⟨0, _⟩ =>
    show 0 + v.val + 0 = v.val
    omega
  | ⟨1, _⟩ =>
    show min (idx (gather_S110592x16_S110592x1x1_S110592x1_n_1_0_0_1_2_11.siIdx (ix2 v 0) ⟨0, by decide⟩)).toInt.toNat 15 = k.val
    rw [show gather_S110592x16_S110592x1x1_S110592x1_n_1_0_0_1_2_11.siIdx (ix2 v 0) ⟨0, by decide⟩ = ix3 v 0 0 from by
      funext b; fin_cases b <;> rfl, h]
    omega

/-! ## The sums over classes -/

theorem lands_class (idx : IVec S110592x1 32) (v : Fin 110592) (k : Fin 16) :
    scatter_S16_S110592x1_S110592_n_0_0_1.resultIdx? (ix1 v) idx = some (ix1 k) ↔ (idx (ix2 v 0)).toInt = (k.val : Int) := by
  have e : scatter_S16_S110592x1_S110592_n_0_0_1.siIdx (ix1 v) ⟨0, by decide⟩ = ix2 v 0 := by funext b; fin_cases b <;> rfl
  have hs : scatter_S16_S110592x1_S110592_n_0_0_1.start (ix1 v) idx 0 = (idx (ix2 v 0)).toInt := by
    rw [← e]; rfl
  have hw : scatter_S16_S110592x1_S110592_n_0_0_1.window (ix1 v) 0 = 0 := rfl
  rw [Routing.resultIdx?_eq_some]
  constructor
  · intro h
    have h0 := h 0
    rw [hs, hw] at h0
    change _ = (k.val : Int) at h0
    omega
  · intro h a
    match a with
    | ⟨0, _⟩ =>
      change scatter_S16_S110592x1_S110592_n_0_0_1.start (ix1 v) idx 0 + (scatter_S16_S110592x1_S110592_n_0_0_1.window (ix1 v) 0 : Int) = (k.val : Int)
      rw [hs, hw]
      omega

theorem lands_rows (idx : IVec S110592x1 32) (v : Fin 110592) (c' : Fin 64) (k : Fin 16) (c : Fin 64) :
    scatter_S16x64_S110592x1_S110592x64_1_0_0_1.resultIdx? (ix2 v c') idx = some (ix2 k c) ↔ (idx (ix2 v 0)).toInt = (k.val : Int) ∧ c' = c := by
  have e : scatter_S16x64_S110592x1_S110592x64_1_0_0_1.siIdx (ix2 v c') ⟨0, by decide⟩ = ix2 v 0 := by funext b; fin_cases b <;> rfl
  have hs : scatter_S16x64_S110592x1_S110592x64_1_0_0_1.start (ix2 v c') idx 0 = (idx (ix2 v 0)).toInt := by
    rw [← e]; rfl
  have hs1 : scatter_S16x64_S110592x1_S110592x64_1_0_0_1.start (ix2 v c') idx 1 = 0 := rfl
  have hw : scatter_S16x64_S110592x1_S110592x64_1_0_0_1.window (ix2 v c') 0 = 0 := rfl
  have hw1 : scatter_S16x64_S110592x1_S110592x64_1_0_0_1.window (ix2 v c') 1 = c'.val := rfl
  rw [Routing.resultIdx?_eq_some, Fin.ext_iff]
  constructor
  · intro h
    have h0 := h 0
    have h1 := h 1
    rw [hs, hw] at h0
    rw [hs1, hw1] at h1
    change _ = (k.val : Int) at h0
    change _ = (c.val : Int) at h1
    omega
  · intro h a
    match a with
    | ⟨0, _⟩ =>
      change scatter_S16x64_S110592x1_S110592x64_1_0_0_1.start (ix2 v c') idx 0 + (scatter_S16x64_S110592x1_S110592x64_1_0_0_1.window (ix2 v c') 0 : Int) = (k.val : Int)
      rw [hs, hw]
      omega
    | ⟨1, _⟩ =>
      change scatter_S16x64_S110592x1_S110592x64_1_0_0_1.start (ix2 v c') idx 1 + (scatter_S16x64_S110592x1_S110592x64_1_0_0_1.window (ix2 v c') 1 : Int) = (c.val : Int)
      rw [hs1, hw1]
      omega

/-- A sum over the indices with a property is the sum over the positions that name them. -/
theorem sum_named {ι κ : Type} [Fintype ι] (P : ι → Prop) [DecidablePred P] (S : Finset κ) (f : κ → ι) (g : ι → κ) (hg : ∀ v, g (f v) = v)
    (hS : ∀ v ∈ S, P (f v)) (hP : ∀ j, P j → g j ∈ S ∧ f (g j) = j) (u : ι → EReal) :
    ∑ j ∈ Finset.univ.filter P, u j = ∑ v ∈ S, u (f v) := by
  symm
  refine Finset.sum_bij (fun v _ => f v) (fun v hv => Finset.mem_filter.2 ⟨Finset.mem_univ _, hS v hv⟩)
    (fun v _ v' _ h => by rw [← hg v, ← hg v']; exact congrArg g h) (fun j hj => ?_) fun _ _ => rfl
  have := hP j (Finset.mem_filter.1 hj).2
  exact ⟨g j, this.1, this.2⟩

theorem sum_class (idx : IVec S110592x1 32) (C : Fin 110592 → Fin 16) (hC : ∀ v, idx (ix2 v 0) = BitVec.ofNat 32 (C v).val)
    (z : FVec Ideal S16 .f32) (u : FVec Ideal S110592 .f32) (k : Fin 16) :
    Host.scatterAdd scatter_S16_S110592x1_S110592_n_0_0_1 z idx u (ix1 k) = z (ix1 k) + ∑ v ∈ members C k, u (ix1 v) := by
  refine congrArg (z (ix1 k) + ·) (sum_named _ (members C k) (fun v : Fin 110592 => (ix1 v : S110592.Idx)) (fun j => j 0) (fun _ => rfl) (fun v hv => ?_) (fun j hj => ?_) u)
  · rw [lands_class, hC, toInt_k, (mem_members C k v).1 hv]
  · obtain ⟨v, rfl⟩ : ∃ v : Fin 110592, j = ix1 v := ⟨j 0, eq_ix1 j⟩
    rw [lands_class, hC, toInt_k] at hj
    exact ⟨(mem_members C k v).2 (Fin.ext (by omega)), rfl⟩

theorem sum_rows (idx : IVec S110592x1 32) (C : Fin 110592 → Fin 16) (hC : ∀ v, idx (ix2 v 0) = BitVec.ofNat 32 (C v).val)
    (z : FVec Ideal S16x64 .f32) (u : FVec Ideal S110592x64 .f32) (k : Fin 16) (c : Fin 64) :
    Host.scatterAdd scatter_S16x64_S110592x1_S110592x64_1_0_0_1 z idx u (ix2 k c) = z (ix2 k c) + ∑ v ∈ members C k, u (ix2 v c) := by
  refine congrArg (z (ix2 k c) + ·) (sum_named _ (members C k) (fun v : Fin 110592 => (ix2 v c : S110592x64.Idx)) (fun j => j 0) (fun _ => rfl) (fun v hv => ?_) (fun j hj => ?_) u)
  · rw [lands_rows, hC, toInt_k, (mem_members C k v).1 hv]
    exact ⟨rfl, rfl⟩
  · obtain ⟨v, c', rfl⟩ : ∃ (v : Fin 110592) (c' : Fin 64), j = ix2 v c' := ⟨j 0, j 1, eq_ix2 j⟩
    rw [lands_rows, hC, toInt_k] at hj
    obtain ⟨h0, rfl⟩ := hj
    exact ⟨(mem_members C k v).2 (Fin.ext (by omega)), rfl⟩

end Cert.ReferenceIdeal.Hand
-- ==== Proof.RefAt.lean ====
/-
  The reference for one image, read at one element over the extended reals: the mean of a voxel's class.
-/
module

public import proofs.«01_k».proof.Proof.RefPick

@[expose] public section

set_option maxRecDepth 16384

noncomputable section

namespace Cert.ReferenceIdeal.Hand

open Cert.ReferenceIdeal Cert.ReferenceIdeal.Gen Cert.Tie
open Idealize.ShloMosaic

attribute [local irreducible] members kmean rmean

/-! ## Each step of the reference at one element, of any arrays -/

theorem segCol_read (g : Vec Ideal S110592 .i32) (v : Fin 110592) : segCol (F := Ideal) g (ix2 v 0) = g (ix1 v) := by
  pointwise [segCol]

theorem select_class (k k' : Fin 16) (a b : EReal) :
    Scalar.select (IntOp.cmpi .eq (BitVec.ofNat 32 k'.val) (BitVec.ofNat 32 k.val)) a b = if k' = k then a else b := by
  rw [WordCmp.cmpi_eq_eq, WordCmp.select_decide]
  exact if_congr (ofNat_inj k' k) rfl rfl

theorem classMax_read (g : Vec Ideal S110592 .i32) (s : Vec Ideal S110592 .f32) (C : Fin 110592 → Fin 16) (S : Fin 110592 → EReal)
    (hg : ∀ v, g (ix1 v) = BitVec.ofNat 32 (C v).val) (hs : ∀ v, s (ix1 v) = S v) (k : Fin 16) :
    classMax g s (ix1 k) = Finset.univ.fold max ⊥ fun v => if C v = k then S v else ⊥ := by
  pointwise [classMax, masked, segCol]
  rw [ofBits_bot]
  refine congrArg (fun f => Finset.univ.fold max ⊥ f) (funext fun v => ?_)
  rw [hs, hg, select_class]

theorem finite_read (M : Vec Ideal S16 .f32) (k : Fin 16) :
    select (cmpf .olt (Host.absf M) (broadcastInDim S16 ![] bcast_S_S16 (constant (F := Ideal) S_ .f32 0x7F800000#32))) M
      (broadcastInDim S16 ![] bcast_S_S16 (constant (F := Ideal) S_ .f32 0x00000000#32)) (ix1 k) = anchor (M (ix1 k)) := by
  pointwise
  rw [ofBits_top]
  rfl

theorem safeMax_read (g : Vec Ideal S110592 .i32) (s : Vec Ideal S110592 .f32) (k : Fin 16) (m : EReal) (h : classMax g s (ix1 k) = m) :
    safeMax g s (ix1 k) = anchor m :=
  (finite_read (classMax g s) k).trans (congrArg anchor h)

theorem expOf_read (s : Vec Ideal S110592 .f32) (m : Vec Ideal S16 .f32) (i : Vec Ideal S110592x1 .i32) (v : Fin 110592) (a b : EReal)
    (hs : s (ix1 v) = a) (hm : Host.gather gather_S16_S110592x1_S110592_n_0_n_n_0_1_1 m i (ix1 v) = b) : expOf s m i (ix1 v) = Ideal.exp (a - b) := by
  pointwise [expOf]
  rw [hs, hm]

theorem safeDen_read (g : Vec Ideal S110592 .i32) (e : Vec Ideal S110592 .f32) (k : Fin 16) (d : EReal) (h : sumOf g e (ix1 k) = d) :
    safeDen g e (ix1 k) = guard d := by
  pointwise [safeDen]
  rw [h]
  rfl

theorem weighted_read (x : Vec Ideal S110592x64 .f32) (e : Vec Ideal S110592 .f32) (d : Vec Ideal S16 .f32) (g : Vec Ideal S110592 .i32)
    (v : Fin 110592) (c : Fin 64) (a b : EReal) (he : e (ix1 v) = a)
    (hd : Host.gather gather_S16_S110592x1_S110592_n_0_n_n_0_1_1 d (rowIdx (F := Ideal) g) (ix1 v) = b) :
    weighted x e d g (ix2 v c) = x (ix2 v c) * Ideal.div a b := by
  pointwise [weighted]
  rw [he, hd]

theorem protos_read (u : Vec Ideal S16x64 .f32) (g : Vec Ideal S110592 .i32) (k : Fin 16) (c : Fin 64) (n U : EReal)
    (hn : countOf (F := Ideal) g (ix1 k) = n) (hu : u (ix2 k c) = U) :
    protos u g (ix2 k c) = if 0 < n then Ideal.div U (max n 1) else 0 := by
  pointwise [protos]
  rw [hn, hu]

/-! ## The reference for one image -/

variable (q : Vec Ideal S110592x16 .f32)

/-- A voxel's class, and its score. -/
def cl (v : Fin 110592) : Fin 16 := cls (row q v)
def sc (v : Fin 110592) : EReal := row q v (cl q v)

/-- A class is no negative index. -/
theorem wrap_class (k : Fin 16) : Scalar.select (IntOp.cmpi .slt (BitVec.ofNat 32 k.val) 0#32) (IntOp.addi (BitVec.ofNat 32 k.val) 16#32) (BitVec.ofNat 32 k.val) =
    BitVec.ofNat 32 k.val := by
  have hk := k.isLt
  exact Routing.wrap_of_lt _ _ (by rw [BitVec.toNat_ofNat, Nat.mod_eq_of_lt] <;> omega)

theorem segCol_at (v : Fin 110592) : segCol (F := Ideal) (segOf q) (ix2 v 0) = BitVec.ofNat 32 (cl q v).val :=
  (segCol_read _ v).trans (seg_at q v)

theorem takeIdx_at (v : Fin 110592) : takeIdx (F := Ideal) (segOf q) (ix3 v 0 0) = BitVec.ofNat 32 (cl q v).val := by
  pointwise [takeIdx]
  rw [segCol_at, wrap_class]

theorem rowIdx_at (v : Fin 110592) : rowIdx (F := Ideal) (segOf q) (ix2 v 0) = BitVec.ofNat 32 (cl q v).val := by
  pointwise [rowIdx]
  rw [seg_at, wrap_class]
  rfl

theorem fold_one (f : Fin 1 → BitVec 1) (h : f 0 = 1#1) : Finset.univ.fold IntOp.andi 1#1 f = 1#1 := by
  rw [Finset.univ_unique, Finset.fold_singleton, show f default = 1#1 from h]
  rfl

theorem takeOk_at (v : Fin 110592) : takeOk (F := Ideal) (takeIdx (F := Ideal) (segOf q)) (ix2 v 0) = 1#1 := by
  pointwise [takeOk]
  refine fold_one _ ?_
  show IntOp.andi (IntOp.cmpi .sge (takeIdx (F := Ideal) (segOf q) (ix3 v 0 0)) 0#32) (IntOp.cmpi .sle (takeIdx (F := Ideal) (segOf q) (ix3 v 0 0)) 15#32) = 1#1
  rw [takeIdx_at, WordCmp.cmpi_sge_eq, WordCmp.cmpi_sle_eq, toInt_k]
  have hk := (cl q v).isLt
  have h0 : (0#32 : BitVec 32).toInt = 0 := by decide
  have h15 : (15#32 : BitVec 32).toInt = 15 := by decide
  rw [h0, h15, decide_eq_true (by omega), decide_eq_true (by omega)]
  rfl

theorem score_at (v : Fin 110592) : scoreOf q (segOf q) (ix1 v) = sc q v := by
  pointwise [scoreOf]
  rw [takeOk_at, gather_score q _ v (cl q v) (by rw [takeIdx_at, toInt_k])]
  rfl

/-- The greatest score of a class. -/
def top (k : Fin 16) : EReal := Finset.univ.fold max ⊥ fun v => if cl q v = k then sc q v else ⊥

theorem classMax_at (k : Fin 16) : classMax (segOf q) (scoreOf q (segOf q)) (ix1 k) = top q k :=
  classMax_read _ _ (cl q) (sc q) (seg_at q) (score_at q) k

theorem safeMax_at (k : Fin 16) : safeMax (segOf q) (scoreOf q (segOf q)) (ix1 k) = anchor (top q k) :=
  safeMax_read _ _ k _ (classMax_at q k)

theorem exps_at (v : Fin 110592) : expsOf q (ix1 v) = Ideal.exp (sc q v - anchor (top q (cl q v))) :=
  expOf_read _ _ _ v _ _ (score_at q v) ((gather_class _ _ v (cl q v) (by rw [rowIdx_at, toInt_k])).trans (safeMax_at q _))

theorem sumOf_at (e : Vec Ideal S110592 .f32) (k : Fin 16) : sumOf (segOf q) e (ix1 k) = ∑ v ∈ members (cl q) k, e (ix1 v) := by
  unfold sumOf
  rw [sum_class _ (cl q) (segCol_at q)]
  pointwise

theorem count_at (k : Fin 16) : countOf (F := Ideal) (segOf q) (ix1 k) = ((members (cl q) k).card : EReal) := by
  unfold countOf
  rw [sumOf_at, card_sum]
  refine Finset.sum_congr rfl fun v _ => ?_
  pointwise

theorem safeDen_at (k : Fin 16) : safeDen (segOf q) (expsOf q) (ix1 k) = guard (∑ v ∈ members (cl q) k, Ideal.exp (sc q v - anchor (top q (cl q v)))) :=
  safeDen_read _ _ k _ ((sumOf_at q _ k).trans (Finset.sum_congr rfl fun v _ => exps_at q v))

variable (x : Vec Ideal S110592x64 .f32)

theorem weighted_at (v : Fin 110592) (c : Fin 64) : weighted x (expsOf q) (safeDen (segOf q) (expsOf q)) (segOf q) (ix2 v c) =
    x (ix2 v c) * Ideal.div (Ideal.exp (sc q v - anchor (top q (cl q v))))
      (guard (∑ u ∈ members (cl q) (cl q v), Ideal.exp (sc q u - anchor (top q (cl q u))))) :=
  weighted_read x _ _ _ v c _ _ (exps_at q v) ((gather_class _ _ v (cl q v) (by rw [rowIdx_at, toInt_k])).trans (safeDen_at q _))

theorem sumRows_at (y : Vec Ideal S110592x64 .f32) (k : Fin 16) (c : Fin 64) :
    sumRows (constant S_ .f32 0x00000000#32) (segOf q) y (ix2 k c) = ∑ v ∈ members (cl q) k, y (ix2 v c) := by
  unfold sumRows
  rw [sum_rows _ (cl q) (segCol_at q)]
  pointwise

theorem protos_at (k : Fin 16) (c : Fin 64) :
    protos (sumRows (constant S_ .f32 0x00000000#32) (segOf q) (weighted x (expsOf q) (safeDen (segOf q) (expsOf q)) (segOf q))) (segOf q) (ix2 k c) =
      rmean (members (cl q) k) (members (cl q) k).card (top q k) (sc q) fun v => x (ix2 v c) := by
  rw [protos_read _ _ k c _ _ (count_at q k) (sumRows_at q _ k c)]
  unfold rmean
  have hcl : ∀ v ∈ members (cl q) k, cl q v = k := fun v hv => (mem_members _ _ _).1 hv
  have hs : ∑ v ∈ members (cl q) k, Ideal.exp (sc q v - anchor (top q (cl q v))) = ∑ v ∈ members (cl q) k, Ideal.exp (sc q v - anchor (top q k)) :=
    Finset.sum_congr rfl fun v hv => by rw [hcl v hv]
  rw [Finset.sum_congr rfl fun v hv => by rw [weighted_at, hcl v hv, hs]]

theorem pam_at (v : Fin 110592) (c : Fin 64) : pam x q (ix2 v c) =
    rmean (members (cl q) (cl q v)) (members (cl q) (cl q v)).card (top q (cl q v)) (sc q) fun u => x (ix2 u c) := by
  unfold pam backOf
  rw [gather_rows _ _ v c (cl q v) (by rw [rowIdx_at, toInt_k]), protos_at]

/-- No score of a class exceeds its greatest, and one that has voxels attains it. -/
theorem le_top (k : Fin 16) (v : Fin 110592) (hv : v ∈ members (cl q) k) : sc q v ≤ top q k :=
  Finset.le_fold_max _ |>.2 (Or.inr ⟨v, Finset.mem_univ _, by rw [if_pos ((mem_members _ _ _).1 hv)]⟩)

theorem top_at (k : Fin 16) (h : (members (cl q) k).Nonempty) : ∃ v ∈ members (cl q) k, sc q v = top q k := by
  obtain ⟨w, hw, hm⟩ := Finset.exists_max_image (members (cl q) k) (sc q) h
  refine ⟨w, hw, le_antisymm (le_top q k w hw) (Finset.fold_max_le _ |>.2 ⟨bot_le, fun v _ => ?_⟩)⟩
  split
  · next hv => exact hm v ((mem_members _ _ _).2 hv)
  · exact bot_le

/-- The reference's mean is the kernel's. -/
theorem pam_kmean (v : Fin 110592) (c : Fin 64) : pam x q (ix2 v c) =
    kmean (members (cl q) (cl q v)) (members (cl q) (cl q v)).card (sc q) fun u => x (ix2 u c) := by
  rw [pam_at, kmean_eq_rmean _ _ (fun h => Finset.card_eq_zero.1 h) (fun h => Finset.card_eq_zero.2 h) (top q (cl q v)) _ _
    (fun u hu => le_top q _ u hu) (top_at q _)]

end Cert.ReferenceIdeal.Hand
-- ==== Proof.RefGrid.lean ====
/-
  The reference's whole result read at one place of the grid, over the extended reals.
-/
module

public import proofs.«01_k».proof.Proof.RefAt
public import proofs.«01_k».proof.Proof.Grid

@[expose] public section

set_option maxRecDepth 16384

noncomputable section

namespace Cert.ReferenceIdeal.Hand

open Cert.ReferenceIdeal Cert.ReferenceIdeal.Gen Cert.Tie
open Idealize.ShloMosaic

attribute [local irreducible] members kmean

theorem score0 (p : Vec Ideal S2x16x48x48x48 .f32) (v : Fin 110592) (k : Fin 16) : pred0 (predT p) (ix2 v k) = at5 p 0 v k := by
  pointwise [pred0, predT]
  rfl
theorem score1 (p : Vec Ideal S2x16x48x48x48 .f32) (v : Fin 110592) (k : Fin 16) : pred1 (predT p) (ix2 v k) = at5 p 1 v k := by
  pointwise [pred1, predT]
  rfl
theorem channel0 (x : Vec Ideal S2x64x48x48x48 .f32) (v : Fin 110592) (c : Fin 64) : feat0 (featT x) (ix2 v c) = at5 x 0 v c := by
  pointwise [feat0, featT]
  rfl
theorem channel1 (x : Vec Ideal S2x64x48x48x48 .f32) (v : Fin 110592) (c : Fin 64) : feat1 (featT x) (ix2 v c) = at5 x 1 v c := by
  pointwise [feat1, featT]
  rfl

theorem stacked_read (a b : Vec Ideal S110592x64 .f32) (v : Fin 110592) (c : Fin 64) :
    stacked a b (ix3 0 v c) = a (ix2 v c) ∧ stacked a b (ix3 1 v c) = b (ix2 v c) := by
  constructor <;> pointwise [stacked]

theorem back_read (x : Vec Ideal S2x64x48x48x48 .f32) (y : Vec Ideal S2x110592x64 .f32) (b : Fin 2) (c : Fin 64) (d h w : Fin 48) :
    mulf (F := Ideal) (φ := .f32) x (transpose S2x64x48x48x48 [0, 4, 1, 2, 3] (shapeCast S2x48x48x48x64 y shapeCasts_S2x110592x64_S2x48x48x48x64)
      transposes_S2x48x48x48x64_S2x64x48x48x48_0_4_1_2_3) (ix5 b c d h w) = x (ix5 b c d h w) * y (ix3 b (voxel d h w) c) := by
  pointwise
  rfl

/-- One image's mean, its arrays read off the grid. -/
theorem pam_read (y : Vec Ideal S110592x64 .f32) (q : Vec Ideal S110592x16 .f32) (Q : Fin 110592 → Fin 16 → EReal) (W : Fin 110592 → Fin 64 → EReal)
    (hq : ∀ v k, q (ix2 v k) = Q v k) (hy : ∀ v c, y (ix2 v c) = W v c) (v : Fin 110592) (c : Fin 64) :
    pam y q (ix2 v c) = kmean (members (fun v => cls (Q v)) (cls (Q v))) (members (fun v => cls (Q v)) (cls (Q v))).card
      (fun v => Q v (cls (Q v))) fun v => W v c := by
  have hr : row q = Q := funext fun v => funext fun k => hq v k
  have hc : cl q = fun v => cls (Q v) := by unfold cl; rw [hr]
  have hs : sc q = fun v => Q v (cls (Q v)) := by unfold sc; rw [hr, hc]
  rw [pam_kmean, hc, hs, show (fun u => y (ix2 u c)) = fun v => W v c from funext fun v => hy v c]

theorem result_at (x : Vec Ideal S2x64x48x48x48 .f32) (p : Vec Ideal S2x16x48x48x48 .f32) (b : Fin 2) (c : Fin 64) (d h w : Fin 48) :
    refResult x p (ix5 b c d h w) = x (ix5 b c d h w) * kmean (members (fun v => cls (at5 p b v)) (cls (at5 p b (voxel d h w))))
      (members (fun v => cls (at5 p b v)) (cls (at5 p b (voxel d h w)))).card (fun v => at5 p b v (cls (at5 p b v))) fun v => at5 x b v c := by
  refine (back_read x _ b c d h w).trans (congrArg (x (ix5 b c d h w) * ·) ?_)
  obtain rfl | rfl : b = 0 ∨ b = 1 := by omega
  · exact (stacked_read _ _ _ c).1.trans (pam_read _ _ (at5 p 0) (at5 x 0) (score0 p) (channel0 x) (voxel d h w) c)
  · exact (stacked_read _ _ _ c).2.trans (pam_read _ _ (at5 p 1) (at5 x 1) (score1 p) (channel1 x) (voxel d h w) c)

end Cert.ReferenceIdeal.Hand
-- ==== Proof.Same.lean ====
/-
  The kernel and the reference compute the same result over the extended reals, of any arguments.
-/
module

public import proofs.«01_k».proof.Proof.KernelGrid
public import proofs.«01_k».proof.Proof.RefGrid

@[expose] public section

noncomputable section

namespace Cert.Tie

open Idealize.ShloMosaic

theorem value_eq (x : Vec Ideal Cert.KernelIdeal.S2x64x48x48x48 .f32) (p : Vec Ideal Cert.KernelIdeal.S2x16x48x48x48 .f32) :
    Cert.KernelIdeal.Hand.result x p = Cert.ReferenceIdeal.Hand.refResult x p := by
  funext i
  obtain ⟨b, c, d, h, w, rfl⟩ : ∃ (b : Fin 2) (c : Fin 64) (d h w : Fin 48), i = ix5 b c d h w := ⟨i 0, i 1, i 2, i 3, i 4, eq_ix5 i⟩
  exact (Cert.KernelIdeal.Hand.result_at x p b c d h w).trans (Cert.ReferenceIdeal.Hand.result_at x p b c d h w).symm

end Cert.Tie
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import proofs.«01_k».proof.Proof.ValueIdeal
public import proofs.«01_k».proof.Proof.RefRun
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel, over the float words: it ends, its arguments stay, every counter is back at zero. -/
theorem frame_Kernel : Cert.quiescent_Kernel (hKernel := Cert.Kernel.Gen.facts) := fun m g _ =>
  (θ_run _ _ _).mono (fun _ h => ⟨fun c => ⟨(h.1 c).2.1, (h.1 c).2.2⟩, h.2⟩) (Cert.Kernel.Hand.run_value (F := Bits) m g)

/-- The same over the extended reals. -/
theorem frame_KernelIdeal : Cert.quiescent_KernelIdeal (hKernelIdeal := Cert.KernelIdeal.Gen.facts) := fun m g _ =>
  (θ_run _ _ _).mono (fun _ h => ⟨fun c => ⟨(h.1 c).2.1, (h.1 c).2.2⟩, h.2⟩) (Cert.KernelIdeal.Hand.run_value (F := Ideal) m g)

/-- The same of the reference. -/
theorem frame_ReferenceIdeal : Cert.quiescent_ReferenceIdeal (hReferenceIdeal := Cert.ReferenceIdeal.Gen.facts) := fun m g _ =>
  (θ_run _ _ _).mono (fun _ h => ⟨fun c => ⟨(h.1 c).2.1, (h.1 c).2.2⟩, h.2⟩) (Cert.ReferenceIdeal.Hand.run (F := Ideal) m g)

/-- The kernel and the reference end with the same result over the extended reals, and with their arguments unchanged. -/
theorem algebraic : Cert.algebraic_KernelIdeal_ReferenceIdeal (hKernelIdeal := Cert.KernelIdeal.Gen.facts) (hReferenceIdeal := Cert.ReferenceIdeal.Gen.facts) :=
  fun m g m' g' _ ha =>
    ⟨fun c => Cert.KernelIdeal.Hand.result (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      (θ_run _ _ _).mono (fun _ h => h.1) (Cert.KernelIdeal.Hand.run_value (F := Ideal) m g),
      (θ_run _ _ _).mono (fun _ h c => ⟨(h.1 c).1.trans (by
        rw [(ha c).1, (ha c).2]
        exact (Cert.Tie.value_eq _ _).symm), (h.1 c).2⟩) (Cert.ReferenceIdeal.Hand.run (F := Ideal) m' g')⟩

theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
